-- ==== Defs.lean ====
def Pre_Kernel [hPre_routes_0123_Kernel : Cert.Pre_routes_0123_Kernel.Facts] (m : (ℓ : Loc Cert.Kernel.nD Cert.Kernel.τ Cert.Kernel.sig) → Buf (Elt Bits) ℓ) : Prop :=
  ∀ c : Dev Cert.Kernel.nD,
    (Cert.Pre_routes_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_0132_Kernel [hPre_routes_0132_Kernel : Cert.Pre_routes_0132_Kernel.Facts] (m : (ℓ : Loc Cert.Kernel.nD Cert.Kernel.τ Cert.Kernel.sig) → Buf (Elt Bits) ℓ) : Prop :=
  ∀ c : Dev Cert.Kernel.nD,
    (Cert.Pre_routes_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_0213_Kernel [hPre_routes_0213_Kernel : Cert.Pre_routes_0213_Kernel.Facts] (m : (ℓ : Loc Cert.Kernel.nD Cert.Kernel.τ Cert.Kernel.sig) → Buf (Elt Bits) ℓ) : Prop :=
  ∀ c : Dev Cert.Kernel.nD,
    (Cert.Pre_routes_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_0231_Kernel [hPre_routes_0231_Kernel : Cert.Pre_routes_0231_Kernel.Facts] (m : (ℓ : Loc Cert.Kernel.nD Cert.Kernel.τ Cert.Kernel.sig) → Buf (Elt Bits) ℓ) : Prop :=
  ∀ c : Dev Cert.Kernel.nD,
    (Cert.Pre_routes_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_0312_Kernel [hPre_routes_0312_Kernel : Cert.Pre_routes_0312_Kernel.Facts] (m : (ℓ : Loc Cert.Kernel.nD Cert.Kernel.τ Cert.Kernel.sig) → Buf (Elt Bits) ℓ) : Prop :=
  ∀ c : Dev Cert.Kernel.nD,
    (Cert.Pre_routes_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_0321_Kernel [hPre_routes_0321_Kernel : Cert.Pre_routes_0321_Kernel.Facts] (m : (ℓ : Loc Cert.Kernel.nD Cert.Kernel.τ Cert.Kernel.sig) → Buf (Elt Bits) ℓ) : Prop :=
  ∀ c : Dev Cert.Kernel.nD,
    (Cert.Pre_routes_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_1023_Kernel [hPre_routes_1023_Kernel : Cert.Pre_routes_1023_Kernel.Facts] (m : (ℓ : Loc Cert.Kernel.nD Cert.Kernel.τ Cert.Kernel.sig) → Buf (Elt Bits) ℓ) : Prop :=
  ∀ c : Dev Cert.Kernel.nD,
    (Cert.Pre_routes_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_1032_Kernel [hPre_routes_1032_Kernel : Cert.Pre_routes_1032_Kernel.Facts] (m : (ℓ : Loc Cert.Kernel.nD Cert.Kernel.τ Cert.Kernel.sig) → Buf (Elt Bits) ℓ) : Prop :=
  ∀ c : Dev Cert.Kernel.nD,
    (Cert.Pre_routes_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_1203_Kernel [hPre_routes_1203_Kernel : Cert.Pre_routes_1203_Kernel.Facts] (m : (ℓ : Loc Cert.Kernel.nD Cert.Kernel.τ Cert.Kernel.sig) → Buf (Elt Bits) ℓ) : Prop :=
  ∀ c : Dev Cert.Kernel.nD,
    (Cert.Pre_routes_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_1230_Kernel [hPre_routes_1230_Kernel : Cert.Pre_routes_1230_Kernel.Facts] (m : (ℓ : Loc Cert.Kernel.nD Cert.Kernel.τ Cert.Kernel.sig) → Buf (Elt Bits) ℓ) : Prop :=
  ∀ c : Dev Cert.Kernel.nD,
    (Cert.Pre_routes_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_1302_Kernel [hPre_routes_1302_Kernel : Cert.Pre_routes_1302_Kernel.Facts] (m : (ℓ : Loc Cert.Kernel.nD Cert.Kernel.τ Cert.Kernel.sig) → Buf (Elt Bits) ℓ) : Prop :=
  ∀ c : Dev Cert.Kernel.nD,
    (Cert.Pre_routes_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_1320_Kernel [hPre_routes_1320_Kernel : Cert.Pre_routes_1320_Kernel.Facts] (m : (ℓ : Loc Cert.Kernel.nD Cert.Kernel.τ Cert.Kernel.sig) → Buf (Elt Bits) ℓ) : Prop :=
  ∀ c : Dev Cert.Kernel.nD,
    (Cert.Pre_routes_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_2013_Kernel [hPre_routes_2013_Kernel : Cert.Pre_routes_2013_Kernel.Facts] (m : (ℓ : Loc Cert.Kernel.nD Cert.Kernel.τ Cert.Kernel.sig) → Buf (Elt Bits) ℓ) : Prop :=
  ∀ c : Dev Cert.Kernel.nD,
    (Cert.Pre_routes_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_2031_Kernel [hPre_routes_2031_Kernel : Cert.Pre_routes_2031_Kernel.Facts] (m : (ℓ : Loc Cert.Kernel.nD Cert.Kernel.τ Cert.Kernel.sig) → Buf (Elt Bits) ℓ) : Prop :=
  ∀ c : Dev Cert.Kernel.nD,
    (Cert.Pre_routes_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_2103_Kernel [hPre_routes_2103_Kernel : Cert.Pre_routes_2103_Kernel.Facts] (m : (ℓ : Loc Cert.Kernel.nD Cert.Kernel.τ Cert.Kernel.sig) → Buf (Elt Bits) ℓ) : Prop :=
  ∀ c : Dev Cert.Kernel.nD,
    (Cert.Pre_routes_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_2130_Kernel [hPre_routes_2130_Kernel : Cert.Pre_routes_2130_Kernel.Facts] (m : (ℓ : Loc Cert.Kernel.nD Cert.Kernel.τ Cert.Kernel.sig) → Buf (Elt Bits) ℓ) : Prop :=
  ∀ c : Dev Cert.Kernel.nD,
    (Cert.Pre_routes_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_2301_Kernel [hPre_routes_2301_Kernel : Cert.Pre_routes_2301_Kernel.Facts] (m : (ℓ : Loc Cert.Kernel.nD Cert.Kernel.τ Cert.Kernel.sig) → Buf (Elt Bits) ℓ) : Prop :=
  ∀ c : Dev Cert.Kernel.nD,
    (Cert.Pre_routes_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_2310_Kernel [hPre_routes_2310_Kernel : Cert.Pre_routes_2310_Kernel.Facts] (m : (ℓ : Loc Cert.Kernel.nD Cert.Kernel.τ Cert.Kernel.sig) → Buf (Elt Bits) ℓ) : Prop :=
  ∀ c : Dev Cert.Kernel.nD,
    (Cert.Pre_routes_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_3012_Kernel [hPre_routes_3012_Kernel : Cert.Pre_routes_3012_Kernel.Facts] (m : (ℓ : Loc Cert.Kernel.nD Cert.Kernel.τ Cert.Kernel.sig) → Buf (Elt Bits) ℓ) : Prop :=
  ∀ c : Dev Cert.Kernel.nD,
    (Cert.Pre_routes_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_3021_Kernel [hPre_routes_3021_Kernel : Cert.Pre_routes_3021_Kernel.Facts] (m : (ℓ : Loc Cert.Kernel.nD Cert.Kernel.τ Cert.Kernel.sig) → Buf (Elt Bits) ℓ) : Prop :=
  ∀ c : Dev Cert.Kernel.nD,
    (Cert.Pre_routes_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_3102_Kernel [hPre_routes_3102_Kernel : Cert.Pre_routes_3102_Kernel.Facts] (m : (ℓ : Loc Cert.Kernel.nD Cert.Kernel.τ Cert.Kernel.sig) → Buf (Elt Bits) ℓ) : Prop :=
  ∀ c : Dev Cert.Kernel.nD,
    (Cert.Pre_routes_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_3120_Kernel [hPre_routes_3120_Kernel : Cert.Pre_routes_3120_Kernel.Facts] (m : (ℓ : Loc Cert.Kernel.nD Cert.Kernel.τ Cert.Kernel.sig) → Buf (Elt Bits) ℓ) : Prop :=
  ∀ c : Dev Cert.Kernel.nD,
    (Cert.Pre_routes_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_3201_Kernel [hPre_routes_3201_Kernel : Cert.Pre_routes_3201_Kernel.Facts] (m : (ℓ : Loc Cert.Kernel.nD Cert.Kernel.τ Cert.Kernel.sig) → Buf (Elt Bits) ℓ) : Prop :=
  ∀ c : Dev Cert.Kernel.nD,
    (Cert.Pre_routes_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_routes_3210_Kernel [hPre_routes_3210_Kernel : Cert.Pre_routes_3210_Kernel.Facts] (m : (ℓ : Loc Cert.Kernel.nD Cert.Kernel.τ Cert.Kernel.sig) → Buf (Elt Bits) ℓ) : Prop :=
  ∀ c : Dev Cert.Kernel.nD,
    (Cert.Pre_routes_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_routes_0123_Kernel : Cert.Pre_routes_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_0132_Kernel [hPre_routes_0132_Kernel : Cert.Pre_routes_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_0213_Kernel [hPre_routes_0213_Kernel : Cert.Pre_routes_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_0231_Kernel [hPre_routes_0231_Kernel : Cert.Pre_routes_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_0312_Kernel [hPre_routes_0312_Kernel : Cert.Pre_routes_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_0321_Kernel [hPre_routes_0321_Kernel : Cert.Pre_routes_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_1023_Kernel [hPre_routes_1023_Kernel : Cert.Pre_routes_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_1032_Kernel [hPre_routes_1032_Kernel : Cert.Pre_routes_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_1203_Kernel [hPre_routes_1203_Kernel : Cert.Pre_routes_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_1230_Kernel [hPre_routes_1230_Kernel : Cert.Pre_routes_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_1302_Kernel [hPre_routes_1302_Kernel : Cert.Pre_routes_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_1320_Kernel [hPre_routes_1320_Kernel : Cert.Pre_routes_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_2013_Kernel [hPre_routes_2013_Kernel : Cert.Pre_routes_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_2031_Kernel [hPre_routes_2031_Kernel : Cert.Pre_routes_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_2103_Kernel [hPre_routes_2103_Kernel : Cert.Pre_routes_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_2130_Kernel [hPre_routes_2130_Kernel : Cert.Pre_routes_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_2301_Kernel [hPre_routes_2301_Kernel : Cert.Pre_routes_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_2310_Kernel [hPre_routes_2310_Kernel : Cert.Pre_routes_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_3012_Kernel [hPre_routes_3012_Kernel : Cert.Pre_routes_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_3021_Kernel [hPre_routes_3021_Kernel : Cert.Pre_routes_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_3102_Kernel [hPre_routes_3102_Kernel : Cert.Pre_routes_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_3120_Kernel [hPre_routes_3120_Kernel : Cert.Pre_routes_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_3201_Kernel [hPre_routes_3201_Kernel : Cert.Pre_routes_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routes_3210_Kernel [hPre_routes_3210_Kernel : Cert.Pre_routes_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routes_0123_ReferenceIdeal [hPre_routes_0123_ReferenceIdeal : Cert.Pre_routes_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_0132_ReferenceIdeal [hPre_routes_0132_ReferenceIdeal : Cert.Pre_routes_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_0213_ReferenceIdeal [hPre_routes_0213_ReferenceIdeal : Cert.Pre_routes_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_0231_ReferenceIdeal [hPre_routes_0231_ReferenceIdeal : Cert.Pre_routes_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_0312_ReferenceIdeal [hPre_routes_0312_ReferenceIdeal : Cert.Pre_routes_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_0321_ReferenceIdeal [hPre_routes_0321_ReferenceIdeal : Cert.Pre_routes_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_1023_ReferenceIdeal [hPre_routes_1023_ReferenceIdeal : Cert.Pre_routes_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_1032_ReferenceIdeal [hPre_routes_1032_ReferenceIdeal : Cert.Pre_routes_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_1203_ReferenceIdeal [hPre_routes_1203_ReferenceIdeal : Cert.Pre_routes_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_1230_ReferenceIdeal [hPre_routes_1230_ReferenceIdeal : Cert.Pre_routes_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_1302_ReferenceIdeal [hPre_routes_1302_ReferenceIdeal : Cert.Pre_routes_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_1320_ReferenceIdeal [hPre_routes_1320_ReferenceIdeal : Cert.Pre_routes_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_2013_ReferenceIdeal [hPre_routes_2013_ReferenceIdeal : Cert.Pre_routes_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_2031_ReferenceIdeal [hPre_routes_2031_ReferenceIdeal : Cert.Pre_routes_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_2103_ReferenceIdeal [hPre_routes_2103_ReferenceIdeal : Cert.Pre_routes_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_2130_ReferenceIdeal [hPre_routes_2130_ReferenceIdeal : Cert.Pre_routes_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_2301_ReferenceIdeal [hPre_routes_2301_ReferenceIdeal : Cert.Pre_routes_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_2310_ReferenceIdeal [hPre_routes_2310_ReferenceIdeal : Cert.Pre_routes_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_3012_ReferenceIdeal [hPre_routes_3012_ReferenceIdeal : Cert.Pre_routes_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_3021_ReferenceIdeal [hPre_routes_3021_ReferenceIdeal : Cert.Pre_routes_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_3102_ReferenceIdeal [hPre_routes_3102_ReferenceIdeal : Cert.Pre_routes_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_3120_ReferenceIdeal [hPre_routes_3120_ReferenceIdeal : Cert.Pre_routes_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_3201_ReferenceIdeal [hPre_routes_3201_ReferenceIdeal : Cert.Pre_routes_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_routes_3210_ReferenceIdeal [hPre_routes_3210_ReferenceIdeal : Cert.Pre_routes_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_routes_0123_Kernel : Cert.Pre_routes_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_0132_Kernel [hKernel : Cert.Kernel.Facts] [hPre_routes_0132_Kernel : Cert.Pre_routes_0132_Kernel.Facts] : Prop :=
  ∀ (m : (ℓ : Loc Cert.Kernel.nD Cert.Kernel.τ Cert.Kernel.sig) → Buf (Elt Bits) ℓ) (g : Dev Cert.Kernel.nD → PrngReg), Pre_Kernel_routes_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_0213_Kernel [hKernel : Cert.Kernel.Facts] [hPre_routes_0213_Kernel : Cert.Pre_routes_0213_Kernel.Facts] : Prop :=
  ∀ (m : (ℓ : Loc Cert.Kernel.nD Cert.Kernel.τ Cert.Kernel.sig) → Buf (Elt Bits) ℓ) (g : Dev Cert.Kernel.nD → PrngReg), Pre_Kernel_routes_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_0231_Kernel [hKernel : Cert.Kernel.Facts] [hPre_routes_0231_Kernel : Cert.Pre_routes_0231_Kernel.Facts] : Prop :=
  ∀ (m : (ℓ : Loc Cert.Kernel.nD Cert.Kernel.τ Cert.Kernel.sig) → Buf (Elt Bits) ℓ) (g : Dev Cert.Kernel.nD → PrngReg), Pre_Kernel_routes_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_0312_Kernel [hKernel : Cert.Kernel.Facts] [hPre_routes_0312_Kernel : Cert.Pre_routes_0312_Kernel.Facts] : Prop :=
  ∀ (m : (ℓ : Loc Cert.Kernel.nD Cert.Kernel.τ Cert.Kernel.sig) → Buf (Elt Bits) ℓ) (g : Dev Cert.Kernel.nD → PrngReg), Pre_Kernel_routes_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_0321_Kernel [hKernel : Cert.Kernel.Facts] [hPre_routes_0321_Kernel : Cert.Pre_routes_0321_Kernel.Facts] : Prop :=
  ∀ (m : (ℓ : Loc Cert.Kernel.nD Cert.Kernel.τ Cert.Kernel.sig) → Buf (Elt Bits) ℓ) (g : Dev Cert.Kernel.nD → PrngReg), Pre_Kernel_routes_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_1023_Kernel [hKernel : Cert.Kernel.Facts] [hPre_routes_1023_Kernel : Cert.Pre_routes_1023_Kernel.Facts] : Prop :=
  ∀ (m : (ℓ : Loc Cert.Kernel.nD Cert.Kernel.τ Cert.Kernel.sig) → Buf (Elt Bits) ℓ) (g : Dev Cert.Kernel.nD → PrngReg), Pre_Kernel_routes_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_1032_Kernel [hKernel : Cert.Kernel.Facts] [hPre_routes_1032_Kernel : Cert.Pre_routes_1032_Kernel.Facts] : Prop :=
  ∀ (m : (ℓ : Loc Cert.Kernel.nD Cert.Kernel.τ Cert.Kernel.sig) → Buf (Elt Bits) ℓ) (g : Dev Cert.Kernel.nD → PrngReg), Pre_Kernel_routes_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_1203_Kernel [hKernel : Cert.Kernel.Facts] [hPre_routes_1203_Kernel : Cert.Pre_routes_1203_Kernel.Facts] : Prop :=
  ∀ (m : (ℓ : Loc Cert.Kernel.nD Cert.Kernel.τ Cert.Kernel.sig) → Buf (Elt Bits) ℓ) (g : Dev Cert.Kernel.nD → PrngReg), Pre_Kernel_routes_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_1230_Kernel [hKernel : Cert.Kernel.Facts] [hPre_routes_1230_Kernel : Cert.Pre_routes_1230_Kernel.Facts] : Prop :=
  ∀ (m : (ℓ : Loc Cert.Kernel.nD Cert.Kernel.τ Cert.Kernel.sig) → Buf (Elt Bits) ℓ) (g : Dev Cert.Kernel.nD → PrngReg), Pre_Kernel_routes_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_1302_Kernel [hKernel : Cert.Kernel.Facts] [hPre_routes_1302_Kernel : Cert.Pre_routes_1302_Kernel.Facts] : Prop :=
  ∀ (m : (ℓ : Loc Cert.Kernel.nD Cert.Kernel.τ Cert.Kernel.sig) → Buf (Elt Bits) ℓ) (g : Dev Cert.Kernel.nD → PrngReg), Pre_Kernel_routes_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_1320_Kernel [hKernel : Cert.Kernel.Facts] [hPre_routes_1320_Kernel : Cert.Pre_routes_1320_Kernel.Facts] : Prop :=
  ∀ (m : (ℓ : Loc Cert.Kernel.nD Cert.Kernel.τ Cert.Kernel.sig) → Buf (Elt Bits) ℓ) (g : Dev Cert.Kernel.nD → PrngReg), Pre_Kernel_routes_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_2013_Kernel [hKernel : Cert.Kernel.Facts] [hPre_routes_2013_Kernel : Cert.Pre_routes_2013_Kernel.Facts] : Prop :=
  ∀ (m : (ℓ : Loc Cert.Kernel.nD Cert.Kernel.τ Cert.Kernel.sig) → Buf (Elt Bits) ℓ) (g : Dev Cert.Kernel.nD → PrngReg), Pre_Kernel_routes_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_2031_Kernel [hKernel : Cert.Kernel.Facts] [hPre_routes_2031_Kernel : Cert.Pre_routes_2031_Kernel.Facts] : Prop :=
  ∀ (m : (ℓ : Loc Cert.Kernel.nD Cert.Kernel.τ Cert.Kernel.sig) → Buf (Elt Bits) ℓ) (g : Dev Cert.Kernel.nD → PrngReg), Pre_Kernel_routes_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_2103_Kernel [hKernel : Cert.Kernel.Facts] [hPre_routes_2103_Kernel : Cert.Pre_routes_2103_Kernel.Facts] : Prop :=
  ∀ (m : (ℓ : Loc Cert.Kernel.nD Cert.Kernel.τ Cert.Kernel.sig) → Buf (Elt Bits) ℓ) (g : Dev Cert.Kernel.nD → PrngReg), Pre_Kernel_routes_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_2130_Kernel [hKernel : Cert.Kernel.Facts] [hPre_routes_2130_Kernel : Cert.Pre_routes_2130_Kernel.Facts] : Prop :=
  ∀ (m : (ℓ : Loc Cert.Kernel.nD Cert.Kernel.τ Cert.Kernel.sig) → Buf (Elt Bits) ℓ) (g : Dev Cert.Kernel.nD → PrngReg), Pre_Kernel_routes_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_2301_Kernel [hKernel : Cert.Kernel.Facts] [hPre_routes_2301_Kernel : Cert.Pre_routes_2301_Kernel.Facts] : Prop :=
  ∀ (m : (ℓ : Loc Cert.Kernel.nD Cert.Kernel.τ Cert.Kernel.sig) → Buf (Elt Bits) ℓ) (g : Dev Cert.Kernel.nD → PrngReg), Pre_Kernel_routes_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_2310_Kernel [hKernel : Cert.Kernel.Facts] [hPre_routes_2310_Kernel : Cert.Pre_routes_2310_Kernel.Facts] : Prop :=
  ∀ (m : (ℓ : Loc Cert.Kernel.nD Cert.Kernel.τ Cert.Kernel.sig) → Buf (Elt Bits) ℓ) (g : Dev Cert.Kernel.nD → PrngReg), Pre_Kernel_routes_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_3012_Kernel [hKernel : Cert.Kernel.Facts] [hPre_routes_3012_Kernel : Cert.Pre_routes_3012_Kernel.Facts] : Prop :=
  ∀ (m : (ℓ : Loc Cert.Kernel.nD Cert.Kernel.τ Cert.Kernel.sig) → Buf (Elt Bits) ℓ) (g : Dev Cert.Kernel.nD → PrngReg), Pre_Kernel_routes_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_3021_Kernel [hKernel : Cert.Kernel.Facts] [hPre_routes_3021_Kernel : Cert.Pre_routes_3021_Kernel.Facts] : Prop :=
  ∀ (m : (ℓ : Loc Cert.Kernel.nD Cert.Kernel.τ Cert.Kernel.sig) → Buf (Elt Bits) ℓ) (g : Dev Cert.Kernel.nD → PrngReg), Pre_Kernel_routes_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_3102_Kernel [hKernel : Cert.Kernel.Facts] [hPre_routes_3102_Kernel : Cert.Pre_routes_3102_Kernel.Facts] : Prop :=
  ∀ (m : (ℓ : Loc Cert.Kernel.nD Cert.Kernel.τ Cert.Kernel.sig) → Buf (Elt Bits) ℓ) (g : Dev Cert.Kernel.nD → PrngReg), Pre_Kernel_routes_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_3120_Kernel [hKernel : Cert.Kernel.Facts] [hPre_routes_3120_Kernel : Cert.Pre_routes_3120_Kernel.Facts] : Prop :=
  ∀ (m : (ℓ : Loc Cert.Kernel.nD Cert.Kernel.τ Cert.Kernel.sig) → Buf (Elt Bits) ℓ) (g : Dev Cert.Kernel.nD → PrngReg), Pre_Kernel_routes_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_3201_Kernel [hKernel : Cert.Kernel.Facts] [hPre_routes_3201_Kernel : Cert.Pre_routes_3201_Kernel.Facts] : Prop :=
  ∀ (m : (ℓ : Loc Cert.Kernel.nD Cert.Kernel.τ Cert.Kernel.sig) → Buf (Elt Bits) ℓ) (g : Dev Cert.Kernel.nD → PrngReg), Pre_Kernel_routes_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_routes_3210_Kernel [hKernel : Cert.Kernel.Facts] [hPre_routes_3210_Kernel : Cert.Pre_routes_3210_Kernel.Facts] : Prop :=
  ∀ (m : (ℓ : Loc Cert.Kernel.nD Cert.Kernel.τ Cert.Kernel.sig) → Buf (Elt Bits) ℓ) (g : Dev Cert.Kernel.nD → PrngReg), Pre_Kernel_routes_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_routes_0123_Kernel : Cert.Pre_routes_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_0132_Kernel [hKernelIdeal : Cert.KernelIdeal.Facts] [hPre_routes_0132_Kernel : Cert.Pre_routes_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_0213_Kernel [hKernelIdeal : Cert.KernelIdeal.Facts] [hPre_routes_0213_Kernel : Cert.Pre_routes_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_0231_Kernel [hKernelIdeal : Cert.KernelIdeal.Facts] [hPre_routes_0231_Kernel : Cert.Pre_routes_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_0312_Kernel [hKernelIdeal : Cert.KernelIdeal.Facts] [hPre_routes_0312_Kernel : Cert.Pre_routes_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_0321_Kernel [hKernelIdeal : Cert.KernelIdeal.Facts] [hPre_routes_0321_Kernel : Cert.Pre_routes_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_1023_Kernel [hKernelIdeal : Cert.KernelIdeal.Facts] [hPre_routes_1023_Kernel : Cert.Pre_routes_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_1032_Kernel [hKernelIdeal : Cert.KernelIdeal.Facts] [hPre_routes_1032_Kernel : Cert.Pre_routes_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_1203_Kernel [hKernelIdeal : Cert.KernelIdeal.Facts] [hPre_routes_1203_Kernel : Cert.Pre_routes_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_1230_Kernel [hKernelIdeal : Cert.KernelIdeal.Facts] [hPre_routes_1230_Kernel : Cert.Pre_routes_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_1302_Kernel [hKernelIdeal : Cert.KernelIdeal.Facts] [hPre_routes_1302_Kernel : Cert.Pre_routes_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_1320_Kernel [hKernelIdeal : Cert.KernelIdeal.Facts] [hPre_routes_1320_Kernel : Cert.Pre_routes_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_2013_Kernel [hKernelIdeal : Cert.KernelIdeal.Facts] [hPre_routes_2013_Kernel : Cert.Pre_routes_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_2031_Kernel [hKernelIdeal : Cert.KernelIdeal.Facts] [hPre_routes_2031_Kernel : Cert.Pre_routes_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_2103_Kernel [hKernelIdeal : Cert.KernelIdeal.Facts] [hPre_routes_2103_Kernel : Cert.Pre_routes_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_2130_Kernel [hKernelIdeal : Cert.KernelIdeal.Facts] [hPre_routes_2130_Kernel : Cert.Pre_routes_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_2301_Kernel [hKernelIdeal : Cert.KernelIdeal.Facts] [hPre_routes_2301_Kernel : Cert.Pre_routes_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_2310_Kernel [hKernelIdeal : Cert.KernelIdeal.Facts] [hPre_routes_2310_Kernel : Cert.Pre_routes_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_3012_Kernel [hKernelIdeal : Cert.KernelIdeal.Facts] [hPre_routes_3012_Kernel : Cert.Pre_routes_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_3021_Kernel [hKernelIdeal : Cert.KernelIdeal.Facts] [hPre_routes_3021_Kernel : Cert.Pre_routes_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_3102_Kernel [hKernelIdeal : Cert.KernelIdeal.Facts] [hPre_routes_3102_Kernel : Cert.Pre_routes_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_3120_Kernel [hKernelIdeal : Cert.KernelIdeal.Facts] [hPre_routes_3120_Kernel : Cert.Pre_routes_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_3201_Kernel [hKernelIdeal : Cert.KernelIdeal.Facts] [hPre_routes_3201_Kernel : Cert.Pre_routes_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routes_3210_Kernel [hKernelIdeal : Cert.KernelIdeal.Facts] [hPre_routes_3210_Kernel : Cert.Pre_routes_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_0123_ReferenceIdeal [hReferenceIdeal : Cert.ReferenceIdeal.Facts] [hPre_routes_0123_ReferenceIdeal : Cert.Pre_routes_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_0132_ReferenceIdeal [hReferenceIdeal : Cert.ReferenceIdeal.Facts] [hPre_routes_0132_ReferenceIdeal : Cert.Pre_routes_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_0213_ReferenceIdeal [hReferenceIdeal : Cert.ReferenceIdeal.Facts] [hPre_routes_0213_ReferenceIdeal : Cert.Pre_routes_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_0231_ReferenceIdeal [hReferenceIdeal : Cert.ReferenceIdeal.Facts] [hPre_routes_0231_ReferenceIdeal : Cert.Pre_routes_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_0312_ReferenceIdeal [hReferenceIdeal : Cert.ReferenceIdeal.Facts] [hPre_routes_0312_ReferenceIdeal : Cert.Pre_routes_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_0321_ReferenceIdeal [hReferenceIdeal : Cert.ReferenceIdeal.Facts] [hPre_routes_0321_ReferenceIdeal : Cert.Pre_routes_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_1023_ReferenceIdeal [hReferenceIdeal : Cert.ReferenceIdeal.Facts] [hPre_routes_1023_ReferenceIdeal : Cert.Pre_routes_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_1032_ReferenceIdeal [hReferenceIdeal : Cert.ReferenceIdeal.Facts] [hPre_routes_1032_ReferenceIdeal : Cert.Pre_routes_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_1203_ReferenceIdeal [hReferenceIdeal : Cert.ReferenceIdeal.Facts] [hPre_routes_1203_ReferenceIdeal : Cert.Pre_routes_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_1230_ReferenceIdeal [hReferenceIdeal : Cert.ReferenceIdeal.Facts] [hPre_routes_1230_ReferenceIdeal : Cert.Pre_routes_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_1302_ReferenceIdeal [hReferenceIdeal : Cert.ReferenceIdeal.Facts] [hPre_routes_1302_ReferenceIdeal : Cert.Pre_routes_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_1320_ReferenceIdeal [hReferenceIdeal : Cert.ReferenceIdeal.Facts] [hPre_routes_1320_ReferenceIdeal : Cert.Pre_routes_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_2013_ReferenceIdeal [hReferenceIdeal : Cert.ReferenceIdeal.Facts] [hPre_routes_2013_ReferenceIdeal : Cert.Pre_routes_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_2031_ReferenceIdeal [hReferenceIdeal : Cert.ReferenceIdeal.Facts] [hPre_routes_2031_ReferenceIdeal : Cert.Pre_routes_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_2103_ReferenceIdeal [hReferenceIdeal : Cert.ReferenceIdeal.Facts] [hPre_routes_2103_ReferenceIdeal : Cert.Pre_routes_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_2130_ReferenceIdeal [hReferenceIdeal : Cert.ReferenceIdeal.Facts] [hPre_routes_2130_ReferenceIdeal : Cert.Pre_routes_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_2301_ReferenceIdeal [hReferenceIdeal : Cert.ReferenceIdeal.Facts] [hPre_routes_2301_ReferenceIdeal : Cert.Pre_routes_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_2310_ReferenceIdeal [hReferenceIdeal : Cert.ReferenceIdeal.Facts] [hPre_routes_2310_ReferenceIdeal : Cert.Pre_routes_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_3012_ReferenceIdeal [hReferenceIdeal : Cert.ReferenceIdeal.Facts] [hPre_routes_3012_ReferenceIdeal : Cert.Pre_routes_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_3021_ReferenceIdeal [hReferenceIdeal : Cert.ReferenceIdeal.Facts] [hPre_routes_3021_ReferenceIdeal : Cert.Pre_routes_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_3102_ReferenceIdeal [hReferenceIdeal : Cert.ReferenceIdeal.Facts] [hPre_routes_3102_ReferenceIdeal : Cert.Pre_routes_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_3120_ReferenceIdeal [hReferenceIdeal : Cert.ReferenceIdeal.Facts] [hPre_routes_3120_ReferenceIdeal : Cert.Pre_routes_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_3201_ReferenceIdeal [hReferenceIdeal : Cert.ReferenceIdeal.Facts] [hPre_routes_3201_ReferenceIdeal : Cert.Pre_routes_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routes_3210_ReferenceIdeal [hReferenceIdeal : Cert.ReferenceIdeal.Facts] [hPre_routes_3210_ReferenceIdeal : Cert.Pre_routes_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routes_0123_Kernel : Cert.Pre_routes_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_0132_Kernel [hKernelIdeal : Cert.KernelIdeal.Facts] [hReferenceIdeal : Cert.ReferenceIdeal.Facts] [hPre_routes_0132_Kernel : Cert.Pre_routes_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_0132_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_0213_Kernel [hKernelIdeal : Cert.KernelIdeal.Facts] [hReferenceIdeal : Cert.ReferenceIdeal.Facts] [hPre_routes_0213_Kernel : Cert.Pre_routes_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_0213_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_0231_Kernel [hKernelIdeal : Cert.KernelIdeal.Facts] [hReferenceIdeal : Cert.ReferenceIdeal.Facts] [hPre_routes_0231_Kernel : Cert.Pre_routes_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_0231_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_0312_Kernel [hKernelIdeal : Cert.KernelIdeal.Facts] [hReferenceIdeal : Cert.ReferenceIdeal.Facts] [hPre_routes_0312_Kernel : Cert.Pre_routes_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_0312_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_0321_Kernel [hKernelIdeal : Cert.KernelIdeal.Facts] [hReferenceIdeal : Cert.ReferenceIdeal.Facts] [hPre_routes_0321_Kernel : Cert.Pre_routes_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_0321_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_1023_Kernel [hKernelIdeal : Cert.KernelIdeal.Facts] [hReferenceIdeal : Cert.ReferenceIdeal.Facts] [hPre_routes_1023_Kernel : Cert.Pre_routes_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_1023_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_1032_Kernel [hKernelIdeal : Cert.KernelIdeal.Facts] [hReferenceIdeal : Cert.ReferenceIdeal.Facts] [hPre_routes_1032_Kernel : Cert.Pre_routes_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_1032_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_1203_Kernel [hKernelIdeal : Cert.KernelIdeal.Facts] [hReferenceIdeal : Cert.ReferenceIdeal.Facts] [hPre_routes_1203_Kernel : Cert.Pre_routes_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_1203_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_1230_Kernel [hKernelIdeal : Cert.KernelIdeal.Facts] [hReferenceIdeal : Cert.ReferenceIdeal.Facts] [hPre_routes_1230_Kernel : Cert.Pre_routes_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_1230_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_1302_Kernel [hKernelIdeal : Cert.KernelIdeal.Facts] [hReferenceIdeal : Cert.ReferenceIdeal.Facts] [hPre_routes_1302_Kernel : Cert.Pre_routes_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_1302_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_1320_Kernel [hKernelIdeal : Cert.KernelIdeal.Facts] [hReferenceIdeal : Cert.ReferenceIdeal.Facts] [hPre_routes_1320_Kernel : Cert.Pre_routes_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_1320_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_2013_Kernel [hKernelIdeal : Cert.KernelIdeal.Facts] [hReferenceIdeal : Cert.ReferenceIdeal.Facts] [hPre_routes_2013_Kernel : Cert.Pre_routes_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_2013_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_2031_Kernel [hKernelIdeal : Cert.KernelIdeal.Facts] [hReferenceIdeal : Cert.ReferenceIdeal.Facts] [hPre_routes_2031_Kernel : Cert.Pre_routes_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_2031_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_2103_Kernel [hKernelIdeal : Cert.KernelIdeal.Facts] [hReferenceIdeal : Cert.ReferenceIdeal.Facts] [hPre_routes_2103_Kernel : Cert.Pre_routes_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_2103_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_2130_Kernel [hKernelIdeal : Cert.KernelIdeal.Facts] [hReferenceIdeal : Cert.ReferenceIdeal.Facts] [hPre_routes_2130_Kernel : Cert.Pre_routes_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_2130_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_2301_Kernel [hKernelIdeal : Cert.KernelIdeal.Facts] [hReferenceIdeal : Cert.ReferenceIdeal.Facts] [hPre_routes_2301_Kernel : Cert.Pre_routes_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_2301_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_2310_Kernel [hKernelIdeal : Cert.KernelIdeal.Facts] [hReferenceIdeal : Cert.ReferenceIdeal.Facts] [hPre_routes_2310_Kernel : Cert.Pre_routes_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_2310_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_3012_Kernel [hKernelIdeal : Cert.KernelIdeal.Facts] [hReferenceIdeal : Cert.ReferenceIdeal.Facts] [hPre_routes_3012_Kernel : Cert.Pre_routes_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_3012_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_3021_Kernel [hKernelIdeal : Cert.KernelIdeal.Facts] [hReferenceIdeal : Cert.ReferenceIdeal.Facts] [hPre_routes_3021_Kernel : Cert.Pre_routes_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_3021_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_3102_Kernel [hKernelIdeal : Cert.KernelIdeal.Facts] [hReferenceIdeal : Cert.ReferenceIdeal.Facts] [hPre_routes_3102_Kernel : Cert.Pre_routes_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_3102_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_3120_Kernel [hKernelIdeal : Cert.KernelIdeal.Facts] [hReferenceIdeal : Cert.ReferenceIdeal.Facts] [hPre_routes_3120_Kernel : Cert.Pre_routes_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_3120_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_3201_Kernel [hKernelIdeal : Cert.KernelIdeal.Facts] [hReferenceIdeal : Cert.ReferenceIdeal.Facts] [hPre_routes_3201_Kernel : Cert.Pre_routes_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_3201_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_routes_3210_Kernel [hKernelIdeal : Cert.KernelIdeal.Facts] [hReferenceIdeal : Cert.ReferenceIdeal.Facts] [hPre_routes_3210_Kernel : Cert.Pre_routes_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_3210_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_routes_0123_Kernel : Cert.Pre_routes_0123_Kernel.Facts) (hPre_routes_0132_Kernel : Cert.Pre_routes_0132_Kernel.Facts) (hPre_routes_0213_Kernel : Cert.Pre_routes_0213_Kernel.Facts) (hPre_routes_0231_Kernel : Cert.Pre_routes_0231_Kernel.Facts) (hPre_routes_0312_Kernel : Cert.Pre_routes_0312_Kernel.Facts) (hPre_routes_0321_Kernel : Cert.Pre_routes_0321_Kernel.Facts) (hPre_routes_1023_Kernel : Cert.Pre_routes_1023_Kernel.Facts) (hPre_routes_1032_Kernel : Cert.Pre_routes_1032_Kernel.Facts) (hPre_routes_1203_Kernel : Cert.Pre_routes_1203_Kernel.Facts) (hPre_routes_1230_Kernel : Cert.Pre_routes_1230_Kernel.Facts) (hPre_routes_1302_Kernel : Cert.Pre_routes_1302_Kernel.Facts) (hPre_routes_1320_Kernel : Cert.Pre_routes_1320_Kernel.Facts) (hPre_routes_2013_Kernel : Cert.Pre_routes_2013_Kernel.Facts) (hPre_routes_2031_Kernel : Cert.Pre_routes_2031_Kernel.Facts) (hPre_routes_2103_Kernel : Cert.Pre_routes_2103_Kernel.Facts) (hPre_routes_2130_Kernel : Cert.Pre_routes_2130_Kernel.Facts) (hPre_routes_2301_Kernel : Cert.Pre_routes_2301_Kernel.Facts) (hPre_routes_2310_Kernel : Cert.Pre_routes_2310_Kernel.Facts) (hPre_routes_3012_Kernel : Cert.Pre_routes_3012_Kernel.Facts) (hPre_routes_3021_Kernel : Cert.Pre_routes_3021_Kernel.Facts) (hPre_routes_3102_Kernel : Cert.Pre_routes_3102_Kernel.Facts) (hPre_routes_3120_Kernel : Cert.Pre_routes_3120_Kernel.Facts) (hPre_routes_3201_Kernel : Cert.Pre_routes_3201_Kernel.Facts) (hPre_routes_3210_Kernel : Cert.Pre_routes_3210_Kernel.Facts) (hPre_routes_0123_ReferenceIdeal : Cert.Pre_routes_0123_ReferenceIdeal.Facts) (hPre_routes_0132_ReferenceIdeal : Cert.Pre_routes_0132_ReferenceIdeal.Facts) (hPre_routes_0213_ReferenceIdeal : Cert.Pre_routes_0213_ReferenceIdeal.Facts) (hPre_routes_0231_ReferenceIdeal : Cert.Pre_routes_0231_ReferenceIdeal.Facts) (hPre_routes_0312_ReferenceIdeal : Cert.Pre_routes_0312_ReferenceIdeal.Facts) (hPre_routes_0321_ReferenceIdeal : Cert.Pre_routes_0321_ReferenceIdeal.Facts) (hPre_routes_1023_ReferenceIdeal : Cert.Pre_routes_1023_ReferenceIdeal.Facts) (hPre_routes_1032_ReferenceIdeal : Cert.Pre_routes_1032_ReferenceIdeal.Facts) (hPre_routes_1203_ReferenceIdeal : Cert.Pre_routes_1203_ReferenceIdeal.Facts) (hPre_routes_1230_ReferenceIdeal : Cert.Pre_routes_1230_ReferenceIdeal.Facts) (hPre_routes_1302_ReferenceIdeal : Cert.Pre_routes_1302_ReferenceIdeal.Facts) (hPre_routes_1320_ReferenceIdeal : Cert.Pre_routes_1320_ReferenceIdeal.Facts) (hPre_routes_2013_ReferenceIdeal : Cert.Pre_routes_2013_ReferenceIdeal.Facts) (hPre_routes_2031_ReferenceIdeal : Cert.Pre_routes_2031_ReferenceIdeal.Facts) (hPre_routes_2103_ReferenceIdeal : Cert.Pre_routes_2103_ReferenceIdeal.Facts) (hPre_routes_2130_ReferenceIdeal : Cert.Pre_routes_2130_ReferenceIdeal.Facts) (hPre_routes_2301_ReferenceIdeal : Cert.Pre_routes_2301_ReferenceIdeal.Facts) (hPre_routes_2310_ReferenceIdeal : Cert.Pre_routes_2310_ReferenceIdeal.Facts) (hPre_routes_3012_ReferenceIdeal : Cert.Pre_routes_3012_ReferenceIdeal.Facts) (hPre_routes_3021_ReferenceIdeal : Cert.Pre_routes_3021_ReferenceIdeal.Facts) (hPre_routes_3102_ReferenceIdeal : Cert.Pre_routes_3102_ReferenceIdeal.Facts) (hPre_routes_3120_ReferenceIdeal : Cert.Pre_routes_3120_ReferenceIdeal.Facts) (hPre_routes_3201_ReferenceIdeal : Cert.Pre_routes_3201_ReferenceIdeal.Facts) (hPre_routes_3210_ReferenceIdeal : Cert.Pre_routes_3210_ReferenceIdeal.Facts),
    quiescent_Kernel (hKernel := hKernel) (hPre_routes_0123_Kernel := hPre_routes_0123_Kernel)
    ∧ quiescent_Kernel_pre_routes_0132_Kernel (hKernel := hKernel) (hPre_routes_0132_Kernel := hPre_routes_0132_Kernel)
    ∧ quiescent_Kernel_pre_routes_0213_Kernel (hKernel := hKernel) (hPre_routes_0213_Kernel := hPre_routes_0213_Kernel)
    ∧ quiescent_Kernel_pre_routes_0231_Kernel (hKernel := hKernel) (hPre_routes_0231_Kernel := hPre_routes_0231_Kernel)
    ∧ quiescent_Kernel_pre_routes_0312_Kernel (hKernel := hKernel) (hPre_routes_0312_Kernel := hPre_routes_0312_Kernel)
    ∧ quiescent_Kernel_pre_routes_0321_Kernel (hKernel := hKernel) (hPre_routes_0321_Kernel := hPre_routes_0321_Kernel)
    ∧ quiescent_Kernel_pre_routes_1023_Kernel (hKernel := hKernel) (hPre_routes_1023_Kernel := hPre_routes_1023_Kernel)
    ∧ quiescent_Kernel_pre_routes_1032_Kernel (hKernel := hKernel) (hPre_routes_1032_Kernel := hPre_routes_1032_Kernel)
    ∧ quiescent_Kernel_pre_routes_1203_Kernel (hKernel := hKernel) (hPre_routes_1203_Kernel := hPre_routes_1203_Kernel)
    ∧ quiescent_Kernel_pre_routes_1230_Kernel (hKernel := hKernel) (hPre_routes_1230_Kernel := hPre_routes_1230_Kernel)
    ∧ quiescent_Kernel_pre_routes_1302_Kernel (hKernel := hKernel) (hPre_routes_1302_Kernel := hPre_routes_1302_Kernel)
    ∧ quiescent_Kernel_pre_routes_1320_Kernel (hKernel := hKernel) (hPre_routes_1320_Kernel := hPre_routes_1320_Kernel)
    ∧ quiescent_Kernel_pre_routes_2013_Kernel (hKernel := hKernel) (hPre_routes_2013_Kernel := hPre_routes_2013_Kernel)
    ∧ quiescent_Kernel_pre_routes_2031_Kernel (hKernel := hKernel) (hPre_routes_2031_Kernel := hPre_routes_2031_Kernel)
    ∧ quiescent_Kernel_pre_routes_2103_Kernel (hKernel := hKernel) (hPre_routes_2103_Kernel := hPre_routes_2103_Kernel)
    ∧ quiescent_Kernel_pre_routes_2130_Kernel (hKernel := hKernel) (hPre_routes_2130_Kernel := hPre_routes_2130_Kernel)
    ∧ quiescent_Kernel_pre_routes_2301_Kernel (hKernel := hKernel) (hPre_routes_2301_Kernel := hPre_routes_2301_Kernel)
    ∧ quiescent_Kernel_pre_routes_2310_Kernel (hKernel := hKernel) (hPre_routes_2310_Kernel := hPre_routes_2310_Kernel)
    ∧ quiescent_Kernel_pre_routes_3012_Kernel (hKernel := hKernel) (hPre_routes_3012_Kernel := hPre_routes_3012_Kernel)
    ∧ quiescent_Kernel_pre_routes_3021_Kernel (hKernel := hKernel) (hPre_routes_3021_Kernel := hPre_routes_3021_Kernel)
    ∧ quiescent_Kernel_pre_routes_3102_Kernel (hKernel := hKernel) (hPre_routes_3102_Kernel := hPre_routes_3102_Kernel)
    ∧ quiescent_Kernel_pre_routes_3120_Kernel (hKernel := hKernel) (hPre_routes_3120_Kernel := hPre_routes_3120_Kernel)
    ∧ quiescent_Kernel_pre_routes_3201_Kernel (hKernel := hKernel) (hPre_routes_3201_Kernel := hPre_routes_3201_Kernel)
    ∧ quiescent_Kernel_pre_routes_3210_Kernel (hKernel := hKernel) (hPre_routes_3210_Kernel := hPre_routes_3210_Kernel)
    ∧ quiescent_KernelIdeal (hKernelIdeal := hKernelIdeal) (hPre_routes_0123_Kernel := hPre_routes_0123_Kernel)
    ∧ quiescent_KernelIdeal_pre_routes_0132_Kernel (hKernelIdeal := hKernelIdeal) (hPre_routes_0132_Kernel := hPre_routes_0132_Kernel)
    ∧ quiescent_KernelIdeal_pre_routes_0213_Kernel (hKernelIdeal := hKernelIdeal) (hPre_routes_0213_Kernel := hPre_routes_0213_Kernel)
    ∧ quiescent_KernelIdeal_pre_routes_0231_Kernel (hKernelIdeal := hKernelIdeal) (hPre_routes_0231_Kernel := hPre_routes_0231_Kernel)
    ∧ quiescent_KernelIdeal_pre_routes_0312_Kernel (hKernelIdeal := hKernelIdeal) (hPre_routes_0312_Kernel := hPre_routes_0312_Kernel)
    ∧ quiescent_KernelIdeal_pre_routes_0321_Kernel (hKernelIdeal := hKernelIdeal) (hPre_routes_0321_Kernel := hPre_routes_0321_Kernel)
    ∧ quiescent_KernelIdeal_pre_routes_1023_Kernel (hKernelIdeal := hKernelIdeal) (hPre_routes_1023_Kernel := hPre_routes_1023_Kernel)
    ∧ quiescent_KernelIdeal_pre_routes_1032_Kernel (hKernelIdeal := hKernelIdeal) (hPre_routes_1032_Kernel := hPre_routes_1032_Kernel)
    ∧ quiescent_KernelIdeal_pre_routes_1203_Kernel (hKernelIdeal := hKernelIdeal) (hPre_routes_1203_Kernel := hPre_routes_1203_Kernel)
    ∧ quiescent_KernelIdeal_pre_routes_1230_Kernel (hKernelIdeal := hKernelIdeal) (hPre_routes_1230_Kernel := hPre_routes_1230_Kernel)
    ∧ quiescent_KernelIdeal_pre_routes_1302_Kernel (hKernelIdeal := hKernelIdeal) (hPre_routes_1302_Kernel := hPre_routes_1302_Kernel)
    ∧ quiescent_KernelIdeal_pre_routes_1320_Kernel (hKernelIdeal := hKernelIdeal) (hPre_routes_1320_Kernel := hPre_routes_1320_Kernel)
    ∧ quiescent_KernelIdeal_pre_routes_2013_Kernel (hKernelIdeal := hKernelIdeal) (hPre_routes_2013_Kernel := hPre_routes_2013_Kernel)
    ∧ quiescent_KernelIdeal_pre_routes_2031_Kernel (hKernelIdeal := hKernelIdeal) (hPre_routes_2031_Kernel := hPre_routes_2031_Kernel)
    ∧ quiescent_KernelIdeal_pre_routes_2103_Kernel (hKernelIdeal := hKernelIdeal) (hPre_routes_2103_Kernel := hPre_routes_2103_Kernel)
    ∧ quiescent_KernelIdeal_pre_routes_2130_Kernel (hKernelIdeal := hKernelIdeal) (hPre_routes_2130_Kernel := hPre_routes_2130_Kernel)
    ∧ quiescent_KernelIdeal_pre_routes_2301_Kernel (hKernelIdeal := hKernelIdeal) (hPre_routes_2301_Kernel := hPre_routes_2301_Kernel)
    ∧ quiescent_KernelIdeal_pre_routes_2310_Kernel (hKernelIdeal := hKernelIdeal) (hPre_routes_2310_Kernel := hPre_routes_2310_Kernel)
    ∧ quiescent_KernelIdeal_pre_routes_3012_Kernel (hKernelIdeal := hKernelIdeal) (hPre_routes_3012_Kernel := hPre_routes_3012_Kernel)
    ∧ quiescent_KernelIdeal_pre_routes_3021_Kernel (hKernelIdeal := hKernelIdeal) (hPre_routes_3021_Kernel := hPre_routes_3021_Kernel)
    ∧ quiescent_KernelIdeal_pre_routes_3102_Kernel (hKernelIdeal := hKernelIdeal) (hPre_routes_3102_Kernel := hPre_routes_3102_Kernel)
    ∧ quiescent_KernelIdeal_pre_routes_3120_Kernel (hKernelIdeal := hKernelIdeal) (hPre_routes_3120_Kernel := hPre_routes_3120_Kernel)
    ∧ quiescent_KernelIdeal_pre_routes_3201_Kernel (hKernelIdeal := hKernelIdeal) (hPre_routes_3201_Kernel := hPre_routes_3201_Kernel)
    ∧ quiescent_KernelIdeal_pre_routes_3210_Kernel (hKernelIdeal := hKernelIdeal) (hPre_routes_3210_Kernel := hPre_routes_3210_Kernel)
    ∧ quiescent_ReferenceIdeal (hReferenceIdeal := hReferenceIdeal)
    ∧ quiescent_ReferenceIdeal_pre_routes_0123_ReferenceIdeal (hReferenceIdeal := hReferenceIdeal) (hPre_routes_0123_ReferenceIdeal := hPre_routes_0123_ReferenceIdeal)
    ∧ quiescent_ReferenceIdeal_pre_routes_0132_ReferenceIdeal (hReferenceIdeal := hReferenceIdeal) (hPre_routes_0132_ReferenceIdeal := hPre_routes_0132_ReferenceIdeal)
    ∧ quiescent_ReferenceIdeal_pre_routes_0213_ReferenceIdeal (hReferenceIdeal := hReferenceIdeal) (hPre_routes_0213_ReferenceIdeal := hPre_routes_0213_ReferenceIdeal)
    ∧ quiescent_ReferenceIdeal_pre_routes_0231_ReferenceIdeal (hReferenceIdeal := hReferenceIdeal) (hPre_routes_0231_ReferenceIdeal := hPre_routes_0231_ReferenceIdeal)
    ∧ quiescent_ReferenceIdeal_pre_routes_0312_ReferenceIdeal (hReferenceIdeal := hReferenceIdeal) (hPre_routes_0312_ReferenceIdeal := hPre_routes_0312_ReferenceIdeal)
    ∧ quiescent_ReferenceIdeal_pre_routes_0321_ReferenceIdeal (hReferenceIdeal := hReferenceIdeal) (hPre_routes_0321_ReferenceIdeal := hPre_routes_0321_ReferenceIdeal)
    ∧ quiescent_ReferenceIdeal_pre_routes_1023_ReferenceIdeal (hReferenceIdeal := hReferenceIdeal) (hPre_routes_1023_ReferenceIdeal := hPre_routes_1023_ReferenceIdeal)
    ∧ quiescent_ReferenceIdeal_pre_routes_1032_ReferenceIdeal (hReferenceIdeal := hReferenceIdeal) (hPre_routes_1032_ReferenceIdeal := hPre_routes_1032_ReferenceIdeal)
    ∧ quiescent_ReferenceIdeal_pre_routes_1203_ReferenceIdeal (hReferenceIdeal := hReferenceIdeal) (hPre_routes_1203_ReferenceIdeal := hPre_routes_1203_ReferenceIdeal)
    ∧ quiescent_ReferenceIdeal_pre_routes_1230_ReferenceIdeal (hReferenceIdeal := hReferenceIdeal) (hPre_routes_1230_ReferenceIdeal := hPre_routes_1230_ReferenceIdeal)
    ∧ quiescent_ReferenceIdeal_pre_routes_1302_ReferenceIdeal (hReferenceIdeal := hReferenceIdeal) (hPre_routes_1302_ReferenceIdeal := hPre_routes_1302_ReferenceIdeal)
    ∧ quiescent_ReferenceIdeal_pre_routes_1320_ReferenceIdeal (hReferenceIdeal := hReferenceIdeal) (hPre_routes_1320_ReferenceIdeal := hPre_routes_1320_ReferenceIdeal)
    ∧ quiescent_ReferenceIdeal_pre_routes_2013_ReferenceIdeal (hReferenceIdeal := hReferenceIdeal) (hPre_routes_2013_ReferenceIdeal := hPre_routes_2013_ReferenceIdeal)
    ∧ quiescent_ReferenceIdeal_pre_routes_2031_ReferenceIdeal (hReferenceIdeal := hReferenceIdeal) (hPre_routes_2031_ReferenceIdeal := hPre_routes_2031_ReferenceIdeal)
    ∧ quiescent_ReferenceIdeal_pre_routes_2103_ReferenceIdeal (hReferenceIdeal := hReferenceIdeal) (hPre_routes_2103_ReferenceIdeal := hPre_routes_2103_ReferenceIdeal)
    ∧ quiescent_ReferenceIdeal_pre_routes_2130_ReferenceIdeal (hReferenceIdeal := hReferenceIdeal) (hPre_routes_2130_ReferenceIdeal := hPre_routes_2130_ReferenceIdeal)
    ∧ quiescent_ReferenceIdeal_pre_routes_2301_ReferenceIdeal (hReferenceIdeal := hReferenceIdeal) (hPre_routes_2301_ReferenceIdeal := hPre_routes_2301_ReferenceIdeal)
    ∧ quiescent_ReferenceIdeal_pre_routes_2310_ReferenceIdeal (hReferenceIdeal := hReferenceIdeal) (hPre_routes_2310_ReferenceIdeal := hPre_routes_2310_ReferenceIdeal)
    ∧ quiescent_ReferenceIdeal_pre_routes_3012_ReferenceIdeal (hReferenceIdeal := hReferenceIdeal) (hPre_routes_3012_ReferenceIdeal := hPre_routes_3012_ReferenceIdeal)
    ∧ quiescent_ReferenceIdeal_pre_routes_3021_ReferenceIdeal (hReferenceIdeal := hReferenceIdeal) (hPre_routes_3021_ReferenceIdeal := hPre_routes_3021_ReferenceIdeal)
    ∧ quiescent_ReferenceIdeal_pre_routes_3102_ReferenceIdeal (hReferenceIdeal := hReferenceIdeal) (hPre_routes_3102_ReferenceIdeal := hPre_routes_3102_ReferenceIdeal)
    ∧ quiescent_ReferenceIdeal_pre_routes_3120_ReferenceIdeal (hReferenceIdeal := hReferenceIdeal) (hPre_routes_3120_ReferenceIdeal := hPre_routes_3120_ReferenceIdeal)
    ∧ quiescent_ReferenceIdeal_pre_routes_3201_ReferenceIdeal (hReferenceIdeal := hReferenceIdeal) (hPre_routes_3201_ReferenceIdeal := hPre_routes_3201_ReferenceIdeal)
    ∧ quiescent_ReferenceIdeal_pre_routes_3210_ReferenceIdeal (hReferenceIdeal := hReferenceIdeal) (hPre_routes_3210_ReferenceIdeal := hPre_routes_3210_ReferenceIdeal)
    ∧ preserves_Kernel_KernelIdeal
    ∧ algebraic_KernelIdeal_ReferenceIdeal (hKernelIdeal := hKernelIdeal) (hReferenceIdeal := hReferenceIdeal) (hPre_routes_0123_Kernel := hPre_routes_0123_Kernel)
    ∧ algebraic_KernelIdeal_ReferenceIdeal_pre_routes_0132_Kernel (hKernelIdeal := hKernelIdeal) (hReferenceIdeal := hReferenceIdeal) (hPre_routes_0132_Kernel := hPre_routes_0132_Kernel)
    ∧ algebraic_KernelIdeal_ReferenceIdeal_pre_routes_0213_Kernel (hKernelIdeal := hKernelIdeal) (hReferenceIdeal := hReferenceIdeal) (hPre_routes_0213_Kernel := hPre_routes_0213_Kernel)
    ∧ algebraic_KernelIdeal_ReferenceIdeal_pre_routes_0231_Kernel (hKernelIdeal := hKernelIdeal) (hReferenceIdeal := hReferenceIdeal) (hPre_routes_0231_Kernel := hPre_routes_0231_Kernel)
    ∧ algebraic_KernelIdeal_ReferenceIdeal_pre_routes_0312_Kernel (hKernelIdeal := hKernelIdeal) (hReferenceIdeal := hReferenceIdeal) (hPre_routes_0312_Kernel := hPre_routes_0312_Kernel)
    ∧ algebraic_KernelIdeal_ReferenceIdeal_pre_routes_0321_Kernel (hKernelIdeal := hKernelIdeal) (hReferenceIdeal := hReferenceIdeal) (hPre_routes_0321_Kernel := hPre_routes_0321_Kernel)
    ∧ algebraic_KernelIdeal_ReferenceIdeal_pre_routes_1023_Kernel (hKernelIdeal := hKernelIdeal) (hReferenceIdeal := hReferenceIdeal) (hPre_routes_1023_Kernel := hPre_routes_1023_Kernel)
    ∧ algebraic_KernelIdeal_ReferenceIdeal_pre_routes_1032_Kernel (hKernelIdeal := hKernelIdeal) (hReferenceIdeal := hReferenceIdeal) (hPre_routes_1032_Kernel := hPre_routes_1032_Kernel)
    ∧ algebraic_KernelIdeal_ReferenceIdeal_pre_routes_1203_Kernel (hKernelIdeal := hKernelIdeal) (hReferenceIdeal := hReferenceIdeal) (hPre_routes_1203_Kernel := hPre_routes_1203_Kernel)
    ∧ algebraic_KernelIdeal_ReferenceIdeal_pre_routes_1230_Kernel (hKernelIdeal := hKernelIdeal) (hReferenceIdeal := hReferenceIdeal) (hPre_routes_1230_Kernel := hPre_routes_1230_Kernel)
    ∧ algebraic_KernelIdeal_ReferenceIdeal_pre_routes_1302_Kernel (hKernelIdeal := hKernelIdeal) (hReferenceIdeal := hReferenceIdeal) (hPre_routes_1302_Kernel := hPre_routes_1302_Kernel)
    ∧ algebraic_KernelIdeal_ReferenceIdeal_pre_routes_1320_Kernel (hKernelIdeal := hKernelIdeal) (hReferenceIdeal := hReferenceIdeal) (hPre_routes_1320_Kernel := hPre_routes_1320_Kernel)
    ∧ algebraic_KernelIdeal_ReferenceIdeal_pre_routes_2013_Kernel (hKernelIdeal := hKernelIdeal) (hReferenceIdeal := hReferenceIdeal) (hPre_routes_2013_Kernel := hPre_routes_2013_Kernel)
    ∧ algebraic_KernelIdeal_ReferenceIdeal_pre_routes_2031_Kernel (hKernelIdeal := hKernelIdeal) (hReferenceIdeal := hReferenceIdeal) (hPre_routes_2031_Kernel := hPre_routes_2031_Kernel)
    ∧ algebraic_KernelIdeal_ReferenceIdeal_pre_routes_2103_Kernel (hKernelIdeal := hKernelIdeal) (hReferenceIdeal := hReferenceIdeal) (hPre_routes_2103_Kernel := hPre_routes_2103_Kernel)
    ∧ algebraic_KernelIdeal_ReferenceIdeal_pre_routes_2130_Kernel (hKernelIdeal := hKernelIdeal) (hReferenceIdeal := hReferenceIdeal) (hPre_routes_2130_Kernel := hPre_routes_2130_Kernel)
    ∧ algebraic_KernelIdeal_ReferenceIdeal_pre_routes_2301_Kernel (hKernelIdeal := hKernelIdeal) (hReferenceIdeal := hReferenceIdeal) (hPre_routes_2301_Kernel := hPre_routes_2301_Kernel)
    ∧ algebraic_KernelIdeal_ReferenceIdeal_pre_routes_2310_Kernel (hKernelIdeal := hKernelIdeal) (hReferenceIdeal := hReferenceIdeal) (hPre_routes_2310_Kernel := hPre_routes_2310_Kernel)
    ∧ algebraic_KernelIdeal_ReferenceIdeal_pre_routes_3012_Kernel (hKernelIdeal := hKernelIdeal) (hReferenceIdeal := hReferenceIdeal) (hPre_routes_3012_Kernel := hPre_routes_3012_Kernel)
    ∧ algebraic_KernelIdeal_ReferenceIdeal_pre_routes_3021_Kernel (hKernelIdeal := hKernelIdeal) (hReferenceIdeal := hReferenceIdeal) (hPre_routes_3021_Kernel := hPre_routes_3021_Kernel)
    ∧ algebraic_KernelIdeal_ReferenceIdeal_pre_routes_3102_Kernel (hKernelIdeal := hKernelIdeal) (hReferenceIdeal := hReferenceIdeal) (hPre_routes_3102_Kernel := hPre_routes_3102_Kernel)
    ∧ algebraic_KernelIdeal_ReferenceIdeal_pre_routes_3120_Kernel (hKernelIdeal := hKernelIdeal) (hReferenceIdeal := hReferenceIdeal) (hPre_routes_3120_Kernel := hPre_routes_3120_Kernel)
    ∧ algebraic_KernelIdeal_ReferenceIdeal_pre_routes_3201_Kernel (hKernelIdeal := hKernelIdeal) (hReferenceIdeal := hReferenceIdeal) (hPre_routes_3201_Kernel := hPre_routes_3201_Kernel)
    ∧ algebraic_KernelIdeal_ReferenceIdeal_pre_routes_3210_Kernel (hKernelIdeal := hKernelIdeal) (hReferenceIdeal := hReferenceIdeal) (hPre_routes_3210_Kernel := hPre_routes_3210_Kernel)
-- ==== Pre_routes_0123_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_0123_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_0132_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_0132_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_0213_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_0213_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_0231_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_0231_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_0312_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_0312_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_0321_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_0321_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_1023_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_1023_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_1032_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_1032_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_1203_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_1203_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_1230_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_1230_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_1302_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_1302_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_1320_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_1320_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_2013_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_2013_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_2031_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_2031_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_2103_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_2103_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_2130_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_2130_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_2301_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_2301_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_2310_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_2310_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_3012_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_3012_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_3021_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_3021_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_3102_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_3102_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_3120_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_3120_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_3201_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_3201_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_routes_3210_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_routes_3210_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x512x512 : Shape := ⟨3, ![1, 512, 512]⟩
abbrev S4 : Shape := ⟨1, ![4]⟩
abbrev S1x512 : Shape := ⟨2, ![1, 512]⟩
abbrev S2 : Shape := ⟨1, ![2]⟩
abbrev S_ : Shape := ⟨0, ![]⟩
abbrev S1 : Shape := ⟨1, ![1]⟩
abbrev S512x512 : Shape := ⟨2, ![512, 512]⟩
abbrev S512 : Shape := ⟨1, ![512]⟩
abbrev S256x512 : Shape := ⟨2, ![256, 512]⟩
abbrev S1x256x512 : Shape := ⟨3, ![1, 256, 512]⟩
abbrev S1x1x512 : Shape := ⟨3, ![1, 1, 512]⟩

abbrev nBuf : Space → Nat
  | .hbm => 3
  | .vmem => 6
  | .smem => 1
  | _ => 0

abbrev bufTy : (tb : Table) → Fin (tcTables nBuf tb) → BufTy
  | .hbm, ⟨0, _⟩ => ⟨S1x512x512, .f32⟩
  | .hbm, ⟨1, _⟩ => ⟨S4, .i32⟩
  | .hbm, ⟨2, _⟩ => ⟨S1x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .i8⟩
  | .local _ .vmem, ⟨3, _⟩ => ⟨S1x512x512, .i8⟩
  | .local _ .vmem, ⟨4, _⟩ => ⟨S1x512, .f32⟩
  | .local _ .vmem, ⟨5, _⟩ => ⟨S1x512, .f32⟩
  | .local _ .smem, ⟨0, _⟩ => ⟨S4, .i32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : Index := Scalar.indexCast v8
  ![v9.toNat]
def k0_dev1 (d0 : Dev nD) (v11 : BitVec 32) (v14 : BitVec 32) (v17 : BitVec 32) (v20 : BitVec 32) : Nat :=
  let c0_i32_7 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_6 : BitVec 32 := 16#32
  let v24 : BitVec 32 := Scalar.muli v2 c16_i32_6
  let v25 : BitVec 32 := Scalar.addi c0_i32_7 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v26 : BitVec 32 := Scalar.muli v5 c4_i32_8
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v21 : BitVec 1 := Scalar.cmpi .eq v20 v8
  let c3_i32 : BitVec 32 := 3#32
  let v18 : BitVec 1 := Scalar.cmpi .eq v17 v8
  let c2_i32_4 : BitVec 32 := 2#32
  let v15 : BitVec 1 := Scalar.cmpi .eq v14 v8
  let c1_i32_3 : BitVec 32 := 1#32
  let v12 : BitVec 1 := Scalar.cmpi .eq v11 v8
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c1_i32_9 : BitVec 32 := 1#32
  let v28 : BitVec 32 := Scalar.muli v22 c1_i32_9
  let v29 : BitVec 32 := Scalar.addi v27 v28
  v29.toNat

def k0_chk1 (d0 : Dev nD) (v11 : BitVec 32) (v14 : BitVec 32) (v17 : BitVec 32) (v20 : BitVec 32) : Prop :=
  ((k0_dev1 d0 v11 v14 v17 v20) < nD)
theorem k0_dev1_lt : ∀ (d0 : Dev nD) (v11 : BitVec 32) (v14 : BitVec 32) (v17 : BitVec 32) (v20 : BitVec 32) (k0_hw1 : k0_chk1 d0 v11 v14 v17 v20), (k0_dev1 d0 v11 v14 v17 v20) < nD := fun d0 v11 v14 v17 v20 k0_hw1 => k0_hw1

def k0_dev2 (d0 : Dev nD) (v10 : BitVec 32) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v53 : BitVec 32 := Scalar.muli v2 c16_i32_22
  let v54 : BitVec 32 := Scalar.addi c0_i32_23 v53
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v55 : BitVec 32 := Scalar.muli v5 c4_i32_24
  let v56 : BitVec 32 := Scalar.addi v54 v55
  let c1_i32_25 : BitVec 32 := 1#32
  let v57 : BitVec 32 := Scalar.muli v10 c1_i32_25
  let v58 : BitVec 32 := Scalar.addi v56 v57
  v58.toNat

def k0_dev3 (d0 : Dev nD) (v10 : BitVec 32) : Nat :=
  let c0_i32_31 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_30 : BitVec 32 := 16#32
  let v59 : BitVec 32 := Scalar.muli v2 c16_i32_30
  let v60 : BitVec 32 := Scalar.addi c0_i32_31 v59
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_32 : BitVec 32 := 4#32
  let v61 : BitVec 32 := Scalar.muli v5 c4_i32_32
  let v62 : BitVec 32 := Scalar.addi v60 v61
  let c1_i32_33 : BitVec 32 := 1#32
  let v63 : BitVec 32 := Scalar.muli v10 c1_i32_33
  let v64 : BitVec 32 := Scalar.addi v62 v63
  v64.toNat
def k0_dev4 (d0 : Dev nD) (v10 : BitVec 32) : Nat :=
  let c0_i32_45 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_44 : BitVec 32 := 16#32
  let v81 : BitVec 32 := Scalar.muli v2 c16_i32_44
  let v82 : BitVec 32 := Scalar.addi c0_i32_45 v81
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_46 : BitVec 32 := 4#32
  let v83 : BitVec 32 := Scalar.muli v5 c4_i32_46
  let v84 : BitVec 32 := Scalar.addi v82 v83
  let c1_i32_47 : BitVec 32 := 1#32
  let v85 : BitVec 32 := Scalar.muli v10 c1_i32_47
  let v86 : BitVec 32 := Scalar.addi v84 v85
  v86.toNat

def k0_chk2 (d0 : Dev nD) (v10 : BitVec 32) : Prop :=
  ((k0_dev2 d0 v10) < nD) ∧
  ((k0_dev3 d0 v10) < nD) ∧
  ((k0_dev4 d0 v10) < nD)
theorem k0_dev2_lt : ∀ (d0 : Dev nD) (v10 : BitVec 32) (k0_hw2 : k0_chk2 d0 v10), (k0_dev2 d0 v10) < nD := fun d0 v10 k0_hw2 => k0_hw2.1
theorem k0_dev3_lt : ∀ (d0 : Dev nD) (v10 : BitVec 32) (k0_hw2 : k0_chk2 d0 v10), (k0_dev3 d0 v10) < nD := fun d0 v10 k0_hw2 => k0_hw2.2.1
theorem k0_dev4_lt : ∀ (d0 : Dev nD) (v10 : BitVec 32) (k0_hw2 : k0_chk2 d0 v10), (k0_dev4 d0 v10) < nD := fun d0 v10 k0_hw2 => k0_hw2.2.2

abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x512x512 : Shape := ⟨3, ![4, 512, 512]⟩
abbrev S4 : Shape := ⟨1, ![4]⟩
abbrev S_ : Shape := ⟨0, ![]⟩
abbrev S4x512 : Shape := ⟨2, ![4, 512]⟩
abbrev S4x1x512 : Shape := ⟨3, ![4, 1, 512]⟩
abbrev S4x1 : Shape := ⟨2, ![4, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4, .i32⟩
  | .hbm, ⟨2, _⟩ => ⟨S4x512x512, .f32⟩
  | .hbm, ⟨3, _⟩ => ⟨S_, .f32⟩
  | .hbm, ⟨4, _⟩ => ⟨S4x512, .f32⟩
  | .hbm, ⟨5, _⟩ => ⟨S4x1x512, .f32⟩
  | .hbm, ⟨6, _⟩ => ⟨S_, .f32⟩
  | .hbm, ⟨7, _⟩ => ⟨S4x1x512, .f32⟩
  | .hbm, ⟨8, _⟩ => ⟨S4x1x512, .f32⟩
  | .hbm, ⟨9, _⟩ => ⟨S_, .f32⟩
  | .hbm, ⟨10, _⟩ => ⟨S4x1x512, .f32⟩
  | .hbm, ⟨11, _⟩ => ⟨S4x1x512, .f32⟩
  | .hbm, ⟨12, _⟩ => ⟨S4x512x512, .f32⟩
  | .hbm, ⟨13, _⟩ => ⟨S4x512x512, .f32⟩
  | .hbm, ⟨14, _⟩ => ⟨S4x512x512, .f32⟩
  | .hbm, ⟨15, _⟩ => ⟨S4x512x512, .i32⟩
  | .hbm, ⟨16, _⟩ => ⟨S4x512x512, .i8⟩
  | .hbm, ⟨17, _⟩ => ⟨S4x512x512, .i32⟩
  | .hbm, ⟨18, _⟩ => ⟨S4x512x512, .f32⟩
  | .hbm, ⟨19, _⟩ => ⟨S4x512x512, .f32⟩
  | .hbm, ⟨20, _⟩ => ⟨S4x512x512, .f32⟩
  | .hbm, ⟨21, _⟩ => ⟨S4, .i32⟩
  | .hbm, ⟨22, _⟩ => ⟨S4, .i32⟩
  | .hbm, ⟨23, _⟩ => ⟨S4, .i32⟩
  | .hbm, ⟨24, _⟩ => ⟨S_, .i32⟩
  | .hbm, ⟨25, _⟩ => ⟨S4, .i32⟩
  | .hbm, ⟨26, _⟩ => ⟨S4, .i1⟩
  | .hbm, ⟨27, _⟩ => ⟨S_, .i32⟩
  | .hbm, ⟨28, _⟩ => ⟨S4, .i32⟩
  | .hbm, ⟨29, _⟩ => ⟨S4, .i32⟩
  | .hbm, ⟨30, _⟩ => ⟨S4, .i32⟩
  | .hbm, ⟨31, _⟩ => ⟨S4x1, .i32⟩
  | .hbm, ⟨32, _⟩ => ⟨S4x512x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call1_v0 : Ref sig .tc := ⟨.hbm, 21, rfl⟩
abbrev main_call1_v1_0 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Route.lean ====
/-
The routing of the exchange: a permutation `σ` of the four positions along mesh axis `z`, the table that spells it,
and the two devices the kernel computes from the table — the one it sends to and the one it signals.
-/
module

public import proofs.«01_k».proof.Proof.Gen.KernelIdeal

@[expose] public section

noncomputable section

namespace Cert.Permute

open Cert.KernelIdeal Cert.KernelIdeal.Gen

open Idealize.ShloMosaic
open Idealize.ShloMosaic.TcCoe

/-- A routing: the shard at position `z` goes to position `σ z`. -/
abbrev Route : Type := Equiv.Perm (Fin 4)

set_option backward.proofsInPublic true in
/-- The position of device `c` along mesh axis `z`. -/
def zOf (c : Dev nD) : Fin 4 := ⟨c.val % 4, Nat.mod_lt _ (by decide)⟩

set_option backward.proofsInPublic true in
/-- The device at position `z` of `c`'s line along mesh axis `z`. -/
def onLine (c : Dev nD) (z : Fin 4) : Dev nD :=
  ⟨4 * (c.val / 4) + z.val, by have h1 : c.val < 32 := c.isLt; have h2 := z.isLt; show _ < 32; omega⟩

/-- The device at position `z` of a line has position `z`. -/
theorem zOf_onLine (c : Dev nD) (z : Fin 4) : zOf (onLine c z) = z :=
  Fin.ext (by have := z.isLt; show (4 * (c.val / 4) + z.val) % 4 = z.val; omega)
/-- Going along a line twice is going to the last position named. -/
theorem onLine_onLine (c : Dev nD) (z z' : Fin 4) : onLine (onLine c z) z' = onLine c z' :=
  Fin.ext (by have := z.isLt; show 4 * ((4 * (c.val / 4) + z.val) / 4) + z'.val = 4 * (c.val / 4) + z'.val; omega)
/-- A device is at its own position of its own line. -/
theorem onLine_zOf (c : Dev nD) : onLine c (zOf c) = c :=
  Fin.ext (by show 4 * (c.val / 4) + c.val % 4 = c.val; omega)

/-- The device `c` sends to, -/
def dst (σ : Route) (c : Dev nD) : Dev nD := onLine c (σ (zOf c))
/-- and the one it receives from. -/
def src (σ : Route) (c : Dev nD) : Dev nD := onLine c (σ.symm (zOf c))

/-- The device that a device sends to receives from it, -/
theorem src_dst (σ : Route) (c : Dev nD) : src σ (dst σ c) = c := by
  unfold src dst; rw [zOf_onLine, Equiv.symm_apply_apply, onLine_onLine, onLine_zOf]
/-- and the one that it receives from sends to it. -/
theorem dst_src (σ : Route) (c : Dev nD) : dst σ (src σ c) = c := by
  unfold src dst; rw [zOf_onLine, Equiv.apply_symm_apply, onLine_onLine, onLine_zOf]
/-- Sending permutes the devices. -/
def ring (σ : Route) : Dev nD ≃ Dev nD := ⟨dst σ, src σ, src_dst σ, dst_src σ⟩

/-! ## The table -/

/-- A position as the word a table holds. -/
def word (z : Fin 4) : BitVec 32 := BitVec.ofNat 32 z.val

/-- The table that spells `σ`. -/
def table (σ : Route) : IVec S4 32 := fun i => word (σ (i 0))

/-- The last of the four words that is `z`'s, as the body's four compare-and-selects compute it. -/
def whereWord (z v0 v1 v2 v3 : BitVec 32) : BitVec 32 :=
  Scalar.select (Scalar.cmpi .eq v3 z) 3#32 (Scalar.select (Scalar.cmpi .eq v2 z) 2#32
    (Scalar.select (Scalar.cmpi .eq v1 z) 1#32 (Scalar.select (Scalar.cmpi .eq v0 z) 0#32 0#32)))

/-- Where exactly one of four words is `z`'s, the selects find its index. -/
theorem whereWord_of : ∀ z a b c d j : Fin 4, (fun | 0 => a | 1 => b | 2 => c | 3 => d : Fin 4 → Fin 4) j = z →
    (∀ k, (fun | 0 => a | 1 => b | 2 => c | 3 => d : Fin 4 → Fin 4) k = z → k = j) →
    whereWord (word z) (word a) (word b) (word c) (word d) = word j := by decide +kernel

/-- In the table of `σ` they find the position that `σ` takes to `z`. -/
theorem whereWord_eq (σ : Route) (z : Fin 4) :
    whereWord (word z) (word (σ 0)) (word (σ 1)) (word (σ 2)) (word (σ 3)) = word (σ.symm z) := by
  refine whereWord_of z _ _ _ _ (σ.symm z) ?_ ?_
  · generalize h : σ.symm z = j
    have h' : σ j = z := by rw [← h, Equiv.apply_symm_apply]
    revert h'; revert j; intro j; fin_cases j <;> exact fun _ h => h
  · intro k hk
    have h' : σ k = z := by revert hk; fin_cases k <;> exact fun h => h
    rw [← h', Equiv.symm_apply_apply]

/-- The body's own position, as it computes it from the device number. -/
theorem zWord_eq : ∀ c : Dev nD, Scalar.remsi (Scalar.divsi (Dev.word c) 1#32) 4#32 = word (zOf c) := by decide +kernel

/-- A copy addressed by a position's word goes to the device at that position of the line. -/
theorem dev2_word : ∀ (c : Dev nD) (z : Fin 4), k0_dev2 c (word z) = (onLine c z).val := by decide +kernel
/-- The three copies compute the device number alike, -/
theorem dev3_eq_dev2 (c : Dev nD) (v : BitVec 32) : k0_dev3 c v = k0_dev2 c v := rfl
/-- all three, -/
theorem dev4_eq_dev2 (c : Dev nD) (v : BitVec 32) : k0_dev4 c v = k0_dev2 c v := rfl
/-- and so does the signal, from the word that the selects find. -/
theorem dev1_eq_dev2 (c : Dev nD) (v0 v1 v2 v3 : BitVec 32) :
    k0_dev1 c v0 v1 v2 v3 = k0_dev2 c (whereWord (Scalar.remsi (Scalar.divsi (Dev.word c) 1#32) 4#32) v0 v1 v2 v3) := rfl

/-- The device the body signals, from the table's four words, is the one it receives from. -/
theorem dev1_eq (σ : Route) (c : Dev nD) :
    k0_dev1 c (word (σ 0)) (word (σ 1)) (word (σ 2)) (word (σ 3)) = (src σ c).val := by
  rw [dev1_eq_dev2, zWord_eq, whereWord_eq, dev2_word]; rfl
/-- The device each of its three copies addresses, from the table's word at its own position, is the one it sends to. -/
theorem dev2_eq (σ : Route) (c : Dev nD) : k0_dev2 c (word (σ (zOf c))) = (dst σ c).val := dev2_word _ _
/-- So for the second copy, -/
theorem dev3_eq (σ : Route) (c : Dev nD) : k0_dev3 c (word (σ (zOf c))) = (dst σ c).val := dev2_word _ _
/-- and for the third. -/
theorem dev4_eq (σ : Route) (c : Dev nD) : k0_dev4 c (word (σ (zOf c))) = (dst σ c).val := dev2_word _ _

/-- So that word passes the body's check that it names a device. -/
theorem chk2 (σ : Route) (c : Dev nD) : k0_chk2 c (word (σ (zOf c))) :=
  ⟨dev2_eq σ c ▸ (dst σ c).isLt, dev3_eq σ c ▸ (dst σ c).isLt, dev4_eq σ c ▸ (dst σ c).isLt⟩

end Cert.Permute

end
-- ==== Proof.Contents.lean ====
/-
What the buffers hold. The block a device sends is quantised into a buffer of bytes, the rows in two chunks, and a row
of scales; the block it receives is read back from the bytes and the scales that land. Each chunk of a buffer is the set
of elements under one rectangle; a copy through the two chunk views leaves the source's elements in the destination's.
-/
module

public import proofs.«01_k».proof.Proof.Route
public import proofs.«01_k».proof.Proof.Gen.KernelIdeal.Skeleton

@[expose] public section

noncomputable section

namespace Cert.Permute

open Cert.KernelIdeal Cert.KernelIdeal.Gen

open Idealize.ShloMosaic
open Idealize.ShloMosaic.TcCoe

variable {F : FTy → Type} [FloatOps F]

/-! ## The memrefs -/

/-- The staged block and table, the staged result. -/
abbrev xM : Memref sig .tc .vmem S1x512x512 .f32 := Memref.whole cc0_stg0_0
abbrev tM : Memref sig .tc .smem S4 .i32 := Memref.whole cc0_stg1_0
abbrev oM : Memref sig .tc .vmem S1x512x512 .f32 := Memref.whole cc0_stg2_0
/-- The bytes and the scales sent, and those received. -/
abbrev qsM : Memref sig .tc .vmem S1x512x512 .i8 := Memref.whole cc0_scratch0
abbrev qrM : Memref sig .tc .vmem S1x512x512 .i8 := Memref.whole cc0_scratch1
abbrev ssM : Memref sig .tc .vmem S1x512 .f32 := Memref.whole cc0_scratch2
abbrev srM : Memref sig .tc .vmem S1x512 .f32 := Memref.whole cc0_scratch3

/-- The two chunks of rows, -/
abbrev rA : Rect S1x512x512 := Rect.unit (s := S1x512x512) ![0, 0, 0] S1x256x512.size inb_S1x512x512_S1x256x512_0_0_0
abbrev rB : Rect S1x512x512 := Rect.unit (s := S1x512x512) ![0, 256, 0] S1x256x512.size inb_S1x512x512_S1x256x512_0_256_0
/-- and a byte buffer's part under each, as the copies name it. -/
abbrev chunkA (M : Memref sig .tc .vmem S1x512x512 .i8) : Memref sig .tc .vmem S256x512 .i8 :=
  (M.slice rA (fun _ => rfl)).squeeze S256x512 squeezes_S1x256x512_S256x512
abbrev chunkB (M : Memref sig .tc .vmem S1x512x512 .i8) : Memref sig .tc .vmem S256x512 .i8 :=
  (M.slice rB (fun _ => rfl)).squeeze S256x512 squeezes_S1x256x512_S256x512

/-! ## The chunks -/

/-- A chunk of a byte buffer, as the copies name it, is the rows of its rectangle: the first chunk sent, -/
theorem qsA_set : (chunkA qsM).view.set = rA.set := (View.set_reshape _ _).trans (View.set_slice_whole cc0_scratch0 rA)
/-- the second sent, -/
theorem qsB_set : (chunkB qsM).view.set = rB.set := (View.set_reshape _ _).trans (View.set_slice_whole cc0_scratch0 rB)
/-- the first received, -/
theorem qrA_set : (chunkA qrM).view.set = rA.set := (View.set_reshape _ _).trans (View.set_slice_whole cc0_scratch1 rA)
/-- and the second received. -/
theorem qrB_set : (chunkB qrM).view.set = rB.set := (View.set_reshape _ _).trans (View.set_slice_whole cc0_scratch1 rB)

/-- An element is in the first chunk where its row is below 256, in the second elsewhere. -/
theorem mem_rA (i : S1x512x512.Idx) : i ∈ rA.set ↔ (i 1).val < 256 := by
  rw [Rect.mem_set_unit]
  have h0 : (i 0).val < 1 := (i 0).isLt
  have h2 : (i 2).val < 512 := (i 2).isLt
  constructor
  · intro h; have h1 : (i 1).val < 0 + 256 := (h 1).2; omega
  · intro h a
    fin_cases a
    · show 0 ≤ (i 0).val ∧ (i 0).val < 0 + 1; omega
    · show 0 ≤ (i 1).val ∧ (i 1).val < 0 + 256; omega
    · show 0 ≤ (i 2).val ∧ (i 2).val < 0 + 512; omega
/-- The second chunk is the rows from 256 on. -/
theorem mem_rB (i : S1x512x512.Idx) : i ∈ rB.set ↔ 256 ≤ (i 1).val := by
  rw [Rect.mem_set_unit]
  have h0 : (i 0).val < 1 := (i 0).isLt
  have h1 : (i 1).val < 512 := (i 1).isLt
  have h2 : (i 2).val < 512 := (i 2).isLt
  constructor
  · intro h; exact (h 1).1
  · intro h a
    fin_cases a
    · show 0 ≤ (i 0).val ∧ (i 0).val < 0 + 1; omega
    · show 256 ≤ (i 1).val ∧ (i 1).val < 256 + 256; omega
    · show 0 ≤ (i 2).val ∧ (i 2).val < 0 + 512; omega

/-- The chunks share no element, -/
theorem chunks_disjoint : Disjoint rA.set rB.set :=
  Finset.disjoint_left.mpr fun i ha hb => absurd ((mem_rA i).mp ha) (Nat.not_lt.mpr ((mem_rB i).mp hb))
/-- and make up the whole buffer. -/
theorem chunks_cover : rA.set ∪ rB.set = Finset.univ := by
  ext i; rw [Finset.mem_union, mem_rA, mem_rB]
  exact ⟨fun _ => Finset.mem_univ _, fun _ => Nat.lt_or_ge _ _⟩

/-! ## Writes and copies, chunk by chunk -/

section Writes
variable {e : EltTy} (b : Ref sig .tc) (r r' : Rect b.ty.shape)

omit [FloatOps F] in
/-- An unmasked write under a rectangle does not depend, there, on what it overwrites, -/
theorem write_in (f g : b.ty.Contents (Elt F)) (w : r.shape.Idx → Elt F b.ty.elt) (i : b.ty.shape.Idx) (hi : i ∈ r.set) :
    ((Memref.whole b).access r : View sig .tc _ _ _).write (Elt F) f w Finset.univ i
      = ((Memref.whole b).access r : View sig .tc _ _ _).write (Elt F) g w Finset.univ i := by
  rw [← Rect.map_emb_univ, Finset.mem_map] at hi
  obtain ⟨x, -, rfl⟩ := hi
  exact (View.write_emb_of_mem (v := (Memref.whole b).access r) (Val := Elt F) f w (Finset.mem_univ x)).trans
    (View.write_emb_of_mem (v := (Memref.whole b).access r) (Val := Elt F) g w (Finset.mem_univ x)).symm

omit [FloatOps F] in
/-- and changes nothing elsewhere. -/
theorem write_out (f : b.ty.Contents (Elt F)) (w : r.shape.Idx → Elt F b.ty.elt) (i : b.ty.shape.Idx) (hi : i ∉ r.set) :
    ((Memref.whole b).access r : View sig .tc _ _ _).write (Elt F) f w Finset.univ i = f i :=
  View.write_of_not_mem (v := (Memref.whole b).access r) (Val := Elt F) f w Finset.univ (by
    rw [View.setOn_univ]
    exact fun h => hi (by rw [← View.set_slice_whole b r]; exact h))

omit [FloatOps F] in
/-- It reads back what was written. -/
theorem write_emb (f : b.ty.Contents (Elt F)) (w : r.shape.Idx → Elt F b.ty.elt) (x : r.shape.Idx) :
    ((Memref.whole b).access r : View sig .tc _ _ _).write (Elt F) f w Finset.univ (r.emb x) = w x :=
  View.write_emb_of_mem (v := (Memref.whole b).access r) (Val := Elt F) f w (Finset.mem_univ x)

end Writes

omit [FloatOps F] in
/-- A copy of a chunk leaves, in the chunk, the source buffer's elements. -/
theorem copyA (fd fs : S1x512x512.Idx → BitVec 8) (i : S1x512x512.Idx) (hi : i ∈ rA.set) :
    (chunkA qrM).view.write (Elt F) fd ((chunkA qsM).view.read (Elt F) fs) Finset.univ i = fs i := by
  rw [← qrA_set] at hi
  obtain ⟨x, -, rfl⟩ := Finset.mem_map.mp hi
  exact View.write_emb_of_mem (v := (chunkA qrM).view) (Val := Elt F) fd _ (Finset.mem_univ x)
omit [FloatOps F] in
/-- So for the second chunk. -/
theorem copyB (fd fs : S1x512x512.Idx → BitVec 8) (i : S1x512x512.Idx) (hi : i ∈ rB.set) :
    (chunkB qrM).view.write (Elt F) fd ((chunkB qsM).view.read (Elt F) fs) Finset.univ i = fs i := by
  rw [← qrB_set] at hi
  obtain ⟨x, -, rfl⟩ := Finset.mem_map.mp hi
  exact View.write_emb_of_mem (v := (chunkB qrM).view) (Val := Elt F) fd _ (Finset.mem_univ x)

/-! ## The contents -/

/-- A block's scales, as the row that is sent; -/
def scales (x : S1x512x512.Idx → Elt F .f32) : S1x512.Idx → Elt F .f32 := k0_pay5 (k0_pay3 x)
/-- its two chunks of bytes, -/
def bytesA (x : S1x512x512.Idx → Elt F .f32) : S1x256x512.Idx → Elt F .i8 := k0_pay7 (k0_pay2 x) (k0_pay3 x)
/-- the second from row 256 on. -/
def bytesB (x : S1x512x512.Idx → Elt F .f32) : S1x256x512.Idx → Elt F .i8 := k0_pay8 (k0_pay2 x) (k0_pay6 (k0_pay3 x))

/-- A whole buffer with its two chunks written. -/
def bothBytes (f : S1x512x512.Idx → Elt F .i8) (a b : S1x256x512.Idx → Elt F .i8) : S1x512x512.Idx → Elt F .i8 :=
  (qsM.access rB : View sig .tc _ _ _).write (Elt F) ((qsM.access rA : View sig .tc _ _ _).write (Elt F) f a Finset.univ) b Finset.univ
/-- So for the result. -/
def bothFloats (f : S1x512x512.Idx → Elt F .f32) (a b : S1x256x512.Idx → Elt F .f32) : S1x512x512.Idx → Elt F .f32 :=
  (oM.access rB : View sig .tc _ _ _).write (Elt F) ((oM.access rA : View sig .tc _ _ _).write (Elt F) f a Finset.univ) b Finset.univ

/-- The bytes of a block, -/
def bytes (x : S1x512x512.Idx → Elt F .f32) : S1x512x512.Idx → Elt F .i8 := bothBytes (fun _ => (0#8 : BitVec 8)) (bytesA x) (bytesB x)
/-- and the block read back from bytes and scales. -/
def decoded (x : S1x512x512.Idx → Elt F .f32) : S1x512x512.Idx → Elt F .f32 :=
  bothFloats x (k0_pay10 (scales x) (bytesA x)) (k0_pay1 (k0_pay9 (scales x)) (bytesB x))

omit [FloatOps F] in
/-- In the first chunk's rows, a store of that chunk alone is already the whole, -/
theorem bothBytes_A (f g : S1x512x512.Idx → Elt F .i8) (a b : S1x256x512.Idx → Elt F .i8) (i : S1x512x512.Idx) (hi : i ∈ rA.set) :
    (qsM.access rA : View sig .tc _ _ _).write (Elt F) f a Finset.univ i = bothBytes g a b i :=
  (write_in cc0_scratch0 rA f g a i hi).trans
    (write_out cc0_scratch0 rB _ b i (Finset.disjoint_left.mp chunks_disjoint hi)).symm
omit [FloatOps F] in
/-- and in the second's rows a store of the second. -/
theorem bothBytes_B (f g : S1x512x512.Idx → Elt F .i8) (a b : S1x256x512.Idx → Elt F .i8) (i : S1x512x512.Idx) (hi : i ∈ rB.set) :
    (qsM.access rB : View sig .tc _ _ _).write (Elt F) f b Finset.univ i = bothBytes g a b i :=
  write_in cc0_scratch0 rB f _ b i hi

omit [FloatOps F] in
/-- The buffer of both, read in the first chunk, is the first array, -/
theorem bothBytes_embA (f : S1x512x512.Idx → Elt F .i8) (a b : S1x256x512.Idx → Elt F .i8) (x : rA.shape.Idx) :
    bothBytes f a b (rA.emb x) = a x :=
  (bothBytes_A f f a b _ (by rw [← Rect.map_emb_univ]; exact Finset.mem_map_of_mem _ (Finset.mem_univ x))).symm.trans (write_emb cc0_scratch0 rA f a x)
omit [FloatOps F] in
/-- and in the second chunk the second. -/
theorem bothBytes_embB (f : S1x512x512.Idx → Elt F .i8) (a b : S1x256x512.Idx → Elt F .i8) (x : rB.shape.Idx) :
    bothBytes f a b (rB.emb x) = b x := write_emb cc0_scratch0 rB _ b x

omit [FloatOps F] in
/-- The result of both, read in the first chunk, is the first array, -/
theorem bothFloats_embA (f : S1x512x512.Idx → Elt F .f32) (a b : S1x256x512.Idx → Elt F .f32) (x : rA.shape.Idx) :
    bothFloats f a b (rA.emb x) = a x :=
  (write_out cc0_stg2_0 rB _ b _ (Finset.disjoint_left.mp chunks_disjoint
    (by rw [← Rect.map_emb_univ]; exact Finset.mem_map_of_mem _ (Finset.mem_univ x)))).trans (write_emb cc0_stg2_0 rA f a x)
omit [FloatOps F] in
/-- and in the second chunk the second. -/
theorem bothFloats_embB (f : S1x512x512.Idx → Elt F .f32) (a b : S1x256x512.Idx → Elt F .f32) (x : rB.shape.Idx) :
    bothFloats f a b (rB.emb x) = b x := write_emb cc0_stg2_0 rB _ b x

omit [FloatOps F] in
/-- Both chunks written, nothing of the earlier contents is left. -/
theorem bothFloats_any (f g : S1x512x512.Idx → Elt F .f32) (a b : S1x256x512.Idx → Elt F .f32) : bothFloats f a b = bothFloats g a b := by
  funext i
  by_cases h : i ∈ rA.set
  · rw [← Rect.map_emb_univ, Finset.mem_map] at h
    obtain ⟨x, -, rfl⟩ := h
    rw [bothFloats_embA, bothFloats_embA]
  · have hB : i ∈ rB.set := (mem_rB i).mpr (Nat.not_lt.mp fun h' => h ((mem_rA i).mpr h'))
    exact write_in cc0_stg2_0 rB _ _ b i hB

/-- What a load of each chunk reads of the bytes. -/
theorem read_bytesA (x : S1x512x512.Idx → Elt F .f32) : (qrM : Memref sig .tc .vmem S1x512x512 .i8).view.readAt (Elt F) rA.toLoadRect (bytes x) = bytesA x :=
  funext fun y => bothBytes_embA _ _ _ y
/-- So for the second chunk. -/
theorem read_bytesB (x : S1x512x512.Idx → Elt F .f32) : (qrM : Memref sig .tc .vmem S1x512x512 .i8).view.readAt (Elt F) rB.toLoadRect (bytes x) = bytesB x :=
  funext fun y => bothBytes_embB _ _ _ y

end Cert.Permute

end
-- ==== Proof.Protocol.lean ====
/-
The protocol of the exchange. Each device has seven semaphore cells: its barrier semaphore, which the device it sends to
signals once its landing buffers are free, and one for either end of its three copies — the row of scales and the two
chunks of bytes. A cell carries one duty, and its payload says which buffers change hands and what they then hold.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg) (σ : Route)

/-- The launch state: memory `m`, every counter at zero. -/
def s₀ : MemSt nD τ sig (Elt F) := ⟨m, fun _ => 0, ρ⟩

/-- Device `c`'s block and table as staged. -/
def block (c : Dev nD) : (cc0_stg0_0 : Ref sig .tc).ty.Contents (Elt F) :=
  (win0_0.blk (0 : Fin 1)).view.read (Elt F) (m ((c : Thread nD τ).loc main_arg0))
/-- The table as device `c` finds it staged. -/
def stagedTable (c : Dev nD) : (cc0_stg1_0 : Ref sig .tc).ty.Contents (Elt F) :=
  (win0_1.blk (0 : Fin 1)).view.read (Elt F) (m ((c : Thread nD τ).loc main_arg1))

/-! ## The cells -/

abbrev barS := (SemArray.scalar (sig.barrier 0 rfl) : Sems sig S_).sem
/-- The two ends of the copy of the scales, and of the copies of the first and of the second chunk. -/
abbrev sSend : DmaSem sig := ⟨7, by decide⟩
abbrev sRecv : DmaSem sig := ⟨8, by decide⟩
abbrev aSend : DmaSem sig := ⟨3, by decide⟩
abbrev aRecv : DmaSem sig := ⟨5, by decide⟩
abbrev bSend : DmaSem sig := ⟨4, by decide⟩
abbrev bRecv : DmaSem sig := ⟨6, by decide⟩

/-- The semaphores as the body names them: the scales' sending one, -/
theorem sSend_eq : (cc0_scratch6 : DmaSems sig S_).sem = sSend := rfl
/-- their receiving one, -/
theorem sRecv_eq : (cc0_scratch7 : DmaSems sig S_).sem = sRecv := rfl
/-- the first chunk's sending one, -/
theorem aSend_eq : ((cc0_scratch4.slice (Rect.unit (s := S2) ![0] S1.size inb_S2_S1_0)).squeeze S_ squeezes_S1_S_).sem = aSend := rfl
/-- the second chunk's, -/
theorem bSend_eq : ((cc0_scratch4.slice (Rect.unit (s := S2) ![1] S1.size inb_S2_S1_1)).squeeze S_ squeezes_S1_S_).sem = bSend := rfl
/-- the first chunk's receiving one, -/
theorem aRecv_eq : ((cc0_scratch5.slice (Rect.unit (s := S2) ![0] S1.size inb_S2_S1_0)).squeeze S_ squeezes_S1_S_).sem = aRecv := rfl
/-- and the second chunk's. -/
theorem bRecv_eq : ((cc0_scratch5.slice (Rect.unit (s := S2) ![1] S1.size inb_S2_S1_1)).squeeze S_ squeezes_S1_S_).sem = bRecv := rfl

/-- The seven cells' semaphores, -/
abbrev csem : Fin 7 → SemLoc sig := fun
  | 0 => .reg barS | 1 => .dma sSend | 2 => .dma sRecv | 3 => .dma aSend | 4 => .dma aRecv | 5 => .dma bSend | 6 => .dma bRecv
/-- device `c`'s cell `k`, -/
abbrev cell (c : Dev nD) (k : Fin 7) : GSem nD τ sig := ((c : Thread nD τ), csem k)
/-- and which cell a semaphore is. -/
def index (s : SemLoc sig) : Option (Fin 7) := [0, 1, 2, 3, 4, 5, 6].find? fun k => decide (csem k = s)

/-- The seven semaphores are distinct, -/
theorem csem_injective : Function.Injective csem := by decide
/-- and each is found by its number. -/
theorem index_csem : ∀ k, index (csem k) = some k := by decide

/-! ## What changes hands -/

/-- The elements of a memref of device `c`'s, held outright at contents `f` of their buffer. -/
def held {s : Shape} {e : EltTy} (M : Memref sig .tc .vmem s e) (c : Dev nD) (f : Buf (Elt F) (M.view.loc (c : Thread nD τ))) : sProp 𝕄 :=
  M.view.loc (c : Thread nD τ) ↦[M.view.set]{fullShare} f

omit [FloatOps F] in
instance held_storable {s : Shape} {e : EltTy} (M : Memref sig .tc .vmem s e) (c : Dev nD) (f) :
    BI.Storable (upEmb : UEmb _ 𝕄) (held (F := F) M c f) := by unfold held; infer_instance

omit [FloatOps F] in
/-- Only the contents of the view's elements matter. -/
theorem held_congr {s : Shape} {e : EltTy} (M : Memref sig .tc .vmem s e) (c : Dev nD) {f g : Buf (Elt F) (M.view.loc (c : Thread nD τ))}
    (h : ∀ i ∈ M.view.set, f i = g i) : held M c f = held M c g := by unfold held; exact pointsTo_congr h

omit [FloatOps F] in
/-- A row buffer is held as its points-to, -/
theorem ss_held (c : Dev nD) (f : Buf (Elt F) ((c : Thread nD τ).loc cc0_scratch2)) :
    held ssM c f = (((c : Thread nD τ).loc cc0_scratch2) ↦{fullShare} f : sProp 𝕄) := by unfold held; rw [View.set_whole]
omit [FloatOps F] in
/-- So for the scales received. -/
theorem sr_held (c : Dev nD) (f : Buf (Elt F) ((c : Thread nD τ).loc cc0_scratch3)) :
    held srM c f = (((c : Thread nD τ).loc cc0_scratch3) ↦{fullShare} f : sProp 𝕄) := by unfold held; rw [View.set_whole]

omit [FloatOps F] in
/-- and a buffer of bytes as its two chunks. -/
theorem qs_chunks (c : Dev nD) (f : Buf (Elt F) ((c : Thread nD τ).loc cc0_scratch0)) :
    (((c : Thread nD τ).loc cc0_scratch0) ↦{fullShare} f : sProp 𝕄) ⊣⊢ iprop(held (chunkA qsM) c f ∗ held (chunkB qsM) c f) := by
  unfold held; rw [qsA_set, qsB_set]
  rw [← chunks_cover]; exact pointsTo_union chunks_disjoint
omit [FloatOps F] in
/-- So for the bytes received. -/
theorem qr_chunks (c : Dev nD) (f : Buf (Elt F) ((c : Thread nD τ).loc cc0_scratch1)) :
    (((c : Thread nD τ).loc cc0_scratch1) ↦{fullShare} f : sProp 𝕄) ⊣⊢ iprop(held (chunkA qrM) c f ∗ held (chunkB qrM) c f) := by
  unfold held; rw [qrA_set, qrB_set]
  rw [← chunks_cover]; exact pointsTo_union chunks_disjoint

/-- What a copy of the scales, of a chunk credits its two cells. -/
abbrev NS : ℕ := (srM : Memref sig .tc .vmem S1x512 .f32).view.dmaCredit
abbrev NQ : ℕ := (chunkA qrM : Memref sig .tc .vmem S256x512 .i8).view.dmaCredit
/-- A copy of the scales credits something, -/
theorem NS_pos : 0 < NS := View.dmaCredit_pos _ (by decide)
/-- and so does a copy of a chunk. -/
theorem NQ_pos : 0 < NQ := View.dmaCredit_pos _ (by decide)

/-- A cell's one amount, -/
def amt : Fin 7 → ℕ := fun | 0 => 1 | 1 => NS | 2 => NS | 3 => NQ | 4 => NQ | 5 => NQ | 6 => NQ
/-- no cell's amount being zero; -/
theorem amt_pos (k : Fin 7) : 0 < amt k := by
  fin_cases k
  · exact Nat.one_pos
  · exact NS_pos
  · exact NS_pos
  all_goals exact NQ_pos

/-- and its one payload: the barrier cell's the landing buffers of the device `c` sends to; a sending cell's what was
    read, back; a receiving cell's the landing buffer, at what the device it came from sent. -/
def pay (c : Dev nD) : Fin 7 → sProp 𝕄 := fun
  | 0 => iprop((∃ f, held (F := F) srM (dst σ c) f) ∗ (∃ f, held (F := F) (chunkA qrM) (dst σ c) f) ∗ ∃ f, held (F := F) (chunkB qrM) (dst σ c) f)
  | 1 => held ssM c (scales (block m c))
  | 2 => held srM c (scales (block m (src σ c)))
  | 3 => held (chunkA qsM) c (bytes (block m c))
  | 4 => held (chunkA qrM) c (bytes (block m (src σ c)))
  | 5 => held (chunkB qsM) c (bytes (block m c))
  | 6 => held (chunkB qrM) c (bytes (block m (src σ c)))

instance pay_storable (c : Dev nD) (k : Fin 7) : BI.Storable (upEmb : UEmb _ 𝕄) (pay (F := F) m σ c k) := by
  fin_cases k <;> (unfold pay; dsimp only; infer_instance)

/-! ## The schedule -/

/-- Every cell has one round with one duty, of its amount and its payload; nothing comes after. -/
def Rd : Rounds.Schedule (GSem nD τ sig) Unit 𝕄 where
  duties g r := if r = 0 ∧ g.1.2 = .tc ∧ (index g.2).isSome = true then {()} else ∅
  unitless _ := False
  amount g _ _ := match index g.2 with | some k => amt k | none => 1
  payload g _ _ := match index g.2 with | some k => pay m σ g.1.1 k | none => iprop(emp)
  amount_pos g _ _ _ := by
    cases index g.2 with
    | none => exact Nat.one_pos
    | some k => exact amt_pos k

instance Rd_payload_storable (g : GSem nD τ sig) (r : ℕ) (d : Unit) : BI.Storable (upEmb : UEmb _ 𝕄) ((Rd (F := F) m σ).payload g r d) := by
  show BI.Storable upEmb (match index g.2 with | some k => pay m σ g.1.1 k | none => iprop(emp))
  split <;> infer_instance

section Sched
variable (c : Dev nD) (k : Fin 7)

/-- A cell's first round has one duty, -/
theorem duties_cell : (Rd (F := F) m σ).duties (cell c k) 0 = {()} := by
  dsimp only [Rd]; exact if_pos ⟨rfl, rfl, by rw [index_csem]; rfl⟩
/-- that one, -/
theorem mem_duties : () ∈ (Rd (F := F) m σ).duties (cell c k) 0 := by rw [duties_cell]; exact Finset.mem_singleton_self _
/-- and a later round has none. -/
theorem duties_later (g : GSem nD τ sig) : ∀ r, 1 ≤ r → (Rd (F := F) m σ).duties g r = ∅ :=
  fun r hr => by dsimp only [Rd]; exact if_neg fun h => by omega
/-- The duty's amount is the cell's, -/
theorem amount_cell : (Rd (F := F) m σ).amount (cell c k) 0 () = amt k := by dsimp only [Rd]; rw [index_csem]
/-- its payload is the cell's, -/
theorem payload_cell : (Rd (F := F) m σ).payload (cell c k) 0 () = pay m σ c k := by dsimp only [Rd]; rw [index_csem]
/-- the round is complete at that amount, -/
theorem expect_cell : (Rd (F := F) m σ).expect (cell c k) 0 = amt k := by
  unfold Schedule.expect Schedule.amountOf; rw [duties_cell, Finset.sum_singleton, amount_cell]
/-- and a wait for all of it hands over that payload. -/
theorem rest_cell : bigSep ((Rd (F := F) m σ).duties (cell c k) 0 \ ∅) (fun d => (Rd (F := F) m σ).payload (cell c k) 0 d) = pay m σ c k := by
  rw [Finset.sdiff_empty, duties_cell, bigSep_singleton, payload_cell]

end Sched

/-! ## What each device owes, and the levels -/

/-- Device `c` owes, innermost first: the second chunk, the first, the scales to the device it sends to, and a signal to
    the device it receives from. -/
def O₃ (c : Dev nD) : CellTallies nD τ sig Unit := tallyAt (cell (dst σ c) 6) () NQ
/-- Before the second chunk's copy, -/
def O₂ (c : Dev nD) : CellTallies nD τ sig Unit := O₃ σ c + tallyAt (cell (dst σ c) 4) () NQ
/-- before the first chunk's, -/
def O₁ (c : Dev nD) : CellTallies nD τ sig Unit := O₂ σ c + tallyAt (cell (dst σ c) 2) () NS
/-- and before the signal. -/
def O₀ (c : Dev nD) : CellTallies nD τ sig Unit := O₁ σ c + tallyAt (cell (src σ c) 0) () 1

/-- Each TensorCore cell has one level. -/
def L (g : GSem nD τ sig) : Finset Unit := if g.1.2 = .tc then {()} else ∅
/-- The barrier cells lie below the receiving ones and above the rest. -/
def lv (g : GSem nD τ sig) (_ : Unit) : ℕ := match index g.2 with | some 0 => 1 | some 2 => 2 | some 4 => 2 | some 6 => 2 | _ => 0

/-- A cell of another core has none, -/
theorem L_of_ne (g : GSem nD τ sig) (h : g.1.2 ≠ .tc) : L g = ∅ := if_neg h
/-- a TensorCore's has one. -/
theorem L_tc (c : Dev nD) (sm : SemLoc sig) : L ((c : Thread nD τ), sm) = {()} := if_pos rfl

/-- The levels of the seven cells, -/
theorem lv_cell (c : Dev nD) (k : Fin 7) : lv (cell c k) () = match k with | 0 => 1 | 2 => 2 | 4 => 2 | 6 => 2 | _ => 0 := by
  unfold lv; rw [index_csem]; fin_cases k <;> rfl
/-- and of any other. -/
theorem lv_none (c : Dev nD) (s : SemLoc sig) (h : index s = none) : lv ((c : Thread nD τ), s) () = 0 := by
  unfold lv; rw [h]

/-- After the signal a device owes only to the receiving cells of the device it sends to, -/
theorem O₁_pos {c : Dev nD} {g : GSem nD τ sig} {u : Unit} (h : 0 < O₁ σ c g u) : ∃ k : Fin 7, (k = 2 ∨ k = 4 ∨ k = 6) ∧ g = cell (dst σ c) k := by
  unfold O₁ O₂ O₃ at h
  simp only [Pi.add_apply, Finsupp.add_apply, tallyAt_apply] at h
  by_cases h6 : g = cell (dst σ c) 6
  · exact ⟨6, .inr (.inr rfl), h6⟩
  by_cases h4 : g = cell (dst σ c) 4
  · exact ⟨4, .inr (.inl rfl), h4⟩
  by_cases h2 : g = cell (dst σ c) 2
  · exact ⟨2, .inl rfl, h2⟩
  rw [if_neg (fun h' => h6 h'.1), if_neg (fun h' => h4 h'.1), if_neg (fun h' => h2 h'.1)] at h
  exact absurd h (Nat.lt_irrefl 0)
/-- and before it to a barrier cell or a receiving one. -/
theorem O₀_pos {c : Dev nD} {g : GSem nD τ sig} {u : Unit} (h : 0 < O₀ σ c g u) :
    ∃ (d : Dev nD) (k : Fin 7), (k = 0 ∨ k = 2 ∨ k = 4 ∨ k = 6) ∧ g = cell d k := by
  by_cases h0 : g = cell (src σ c) 0
  · exact ⟨_, 0, .inl rfl, h0⟩
  unfold O₀ at h
  rw [Pi.add_apply, Finsupp.add_apply, tallyAt_apply, if_neg (fun h' => h0 h'.1), Nat.add_zero] at h
  obtain ⟨k, hk, hg⟩ := O₁_pos σ h
  exact ⟨_, k, .inr hk, hg⟩

omit [FloatOps F] in
/-- A staging cell is waited on below everything a device owes, -/
theorem mayWait_stage (c : Dev nD) (q : DmaSem sig) (hq : index (.dma q) = none) (O : CellTallies nD τ sig Unit) (hO : O = O₀ σ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, k, -, rfl⟩ := O₀_pos σ hg; exact Finset.mem_singleton_self _)
      (fun p hp => by rw [Finset.mem_singleton.mp hp]; exact Nat.le_of_eq (lv_none c _ hq))
      (fun g u hg => by
        obtain ⟨d, k, hk, rfl⟩ := O₀_pos σ hg
        rw [lv_cell]; rcases hk with rfl | rfl | rfl | rfl <;> decide)
  · rw [MayWait_zero]; iintro -; iempintro

omit [FloatOps F] in
/-- and the barrier cell below the three copies still owed. -/
theorem mayWait_barrier (c : Dev nD) : (levAts L lv : sProp 𝕄) ⊢ MayWait (c : Thread nD τ) (.reg barS) () (O₁ σ c) :=
  MayOwe.of_cut (L := L) (lev := lv) 1 (fun p hp => by rw [Finset.mem_singleton.mp hp, L_tc]; exact Finset.mem_singleton_self _)
    (fun g u hg => by obtain ⟨k, -, rfl⟩ := O₁_pos σ hg; exact Finset.mem_singleton_self _)
    (fun p hp => by rw [Finset.mem_singleton.mp hp]; exact Nat.le_of_eq (lv_cell c 0))
    (fun g u hg => by
      obtain ⟨k, hk, rfl⟩ := O₁_pos σ hg
      rw [lv_cell]; rcases hk with rfl | rfl | rfl <;> decide)

end Cert.Permute

end
-- ==== Proof.Body.lean ====
/-
The body at one device: what it starts with, what it ends with, and its run between the two, at a symbolic device and for
any float values.
-/
module

public import proofs.«01_k».proof.Proof.Protocol
public import Idealize.ShloMosaic.Lib.Scf

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (σ : Route)

/-! ## The table's words -/

/-- The table's entry at the device's own position, -/
abbrev rOwn (c : Dev nD) : Rect S4 := Rect.unit (s := S4) (k0_off1 c) S1.size (k0_off1_inb c)
abbrev rK0 : Rect S4 := Rect.unit (s := S4) ![0] S1.size inb_S4_S1_0
abbrev rK1 : Rect S4 := Rect.unit (s := S4) ![1] S1.size inb_S4_S1_1
abbrev rK2 : Rect S4 := Rect.unit (s := S4) ![2] S1.size inb_S4_S1_2
abbrev rK3 : Rect S4 := Rect.unit (s := S4) ![3] S1.size inb_S4_S1_3

/-- The word that the body reads there, -/
abbrev ownWord (c : Dev nD) : BitVec 32 :=
  (tM.access (rOwn c) : View sig .tc _ _ _).read (Elt F) (table σ) (Shape.Idx.first (s := S1) (numel1_S1.symm ▸ Nat.one_pos))
abbrev word0 : BitVec 32 := (tM.access rK0 : View sig .tc _ _ _).read (Elt F) (table σ) (Shape.Idx.first (s := S1) (numel1_S1.symm ▸ Nat.one_pos))
abbrev word1 : BitVec 32 := (tM.access rK1 : View sig .tc _ _ _).read (Elt F) (table σ) (Shape.Idx.first (s := S1) (numel1_S1.symm ▸ Nat.one_pos))
abbrev word2 : BitVec 32 := (tM.access rK2 : View sig .tc _ _ _).read (Elt F) (table σ) (Shape.Idx.first (s := S1) (numel1_S1.symm ▸ Nat.one_pos))
abbrev word3 : BitVec 32 := (tM.access rK3 : View sig .tc _ _ _).read (Elt F) (table σ) (Shape.Idx.first (s := S1) (numel1_S1.symm ▸ Nat.one_pos))

omit [FloatOps F] in
/-- The word at the device's own position is the position that it sends to, -/
theorem ownWord_eq (c : Dev nD) : ownWord (F := F) σ c = word (σ (zOf c)) := by
  show word (σ _) = _
  refine congrArg (fun z => word (σ z)) (Fin.ext ?_)
  fin_cases c <;> rfl
omit [FloatOps F] in
/-- and the four words in turn are the positions that the four send to: the first's, -/
theorem word0_eq : word0 (F := F) σ = word (σ 0) := rfl
omit [FloatOps F] in
/-- the second's, -/
theorem word1_eq : word1 (F := F) σ = word (σ 1) := rfl
omit [FloatOps F] in
/-- the third's, -/
theorem word2_eq : word2 (F := F) σ = word (σ 2) := rfl
omit [FloatOps F] in
/-- the fourth's. -/
theorem word3_eq : word3 (F := F) σ = word (σ 3) := rfl

/-- The checks on the words hold: on the one for the copies, -/
theorem ownChk (c : Dev nD) : k0_chk2 c (ownWord (F := F) σ c) := by rw [ownWord_eq]; exact chk2 σ c
/-- and on the four for the signal. -/
theorem signalChk (c : Dev nD) : k0_chk1 c (word0 (F := F) σ) (word1 (F := F) σ) (word2 (F := F) σ) (word3 (F := F) σ) := k0_chk1_all _ _ _ _ _
/-- The signal goes to the device that `c` receives from, -/
theorem signalDev (c : Dev nD) (h) :
    (⟨k0_dev1 c (word0 (F := F) σ) (word1 (F := F) σ) (word2 (F := F) σ) (word3 (F := F) σ), k0_dev1_lt _ _ _ _ _ h⟩ : Dev nD) = src σ c := Fin.ext (dev1_eq σ c)
/-- and the copies to the one that it sends to: the scales, -/
theorem copyDev2 (c : Dev nD) (h) : (⟨k0_dev2 c (ownWord (F := F) σ c), k0_dev2_lt _ _ h⟩ : Dev nD) = dst σ c := Fin.ext (by
  show k0_dev2 _ _ = _; rw [ownWord_eq]; exact dev2_eq σ c)
/-- the first chunk, -/
theorem copyDev3 (c : Dev nD) (h) : (⟨k0_dev3 c (ownWord (F := F) σ c), k0_dev3_lt _ _ h⟩ : Dev nD) = dst σ c := Fin.ext (by
  show k0_dev3 _ _ = _; rw [ownWord_eq]; exact dev3_eq σ c)
/-- and the second. -/
theorem copyDev4 (c : Dev nD) (h) : (⟨k0_dev4 c (ownWord (F := F) σ c), k0_dev4_lt _ _ h⟩ : Dev nD) = dst σ c := Fin.ext (by
  show k0_dev4 _ _ = _; rw [ownWord_eq]; exact dev4_eq σ c)

/-! ## What a device starts and ends with -/

/-- Every device's cells as the launch records them: the invariant of each, and that each is at its first round. -/
def records (K : Dev nD × Fin 7 → ℕ) : sProp 𝕄 :=
  iprop((bigSep Finset.univ fun ck : Dev nD × Fin 7 => cellInv ER (Rd m σ) (K ck) (cell ck.1 ck.2))
    ∗ bigSep Finset.univ fun ck : Dev nD × Fin 7 => reached ER (cell ck.1 ck.2) 0)
instance records_persistent (K : Dev nD × Fin 7 → ℕ) : BI.Persistent (records m σ K) := by unfold records; infer_instance

/-- The records have the invariant of each cell, -/
theorem inv_at (K : Dev nD × Fin 7 → ℕ) (c : Dev nD) (k : Fin 7) : records m σ K ⊢ cellInv ER (Rd m σ) (K (c, k)) (cell c k) := by
  have h : (bigSep Finset.univ fun ck : Dev nD × Fin 7 => (cellInv ER (Rd m σ) (K ck) (cell ck.1 ck.2) : sProp 𝕄))
      ⊢ cellInv ER (Rd m σ) (K (c, k)) (cell c k) := bigSep_elim (Finset.mem_univ (c, k))
  unfold records
  iintro ⟨H, -⟩
  iapply h; iexact H
/-- and that its first round is reached. -/
theorem reached_at (K : Dev nD × Fin 7 → ℕ) (c : Dev nD) (k : Fin 7) : records m σ K ⊢ reached ER (cell c k) 0 := by
  have h : (bigSep Finset.univ fun ck : Dev nD × Fin 7 => (reached ER (cell ck.1 ck.2) 0 : sProp 𝕄))
      ⊢ reached ER (cell c k) 0 := bigSep_elim (Finset.mem_univ (c, k))
  unfold records
  iintro ⟨-, H⟩
  iapply h; iexact H

/-- The duties device `c` pays. -/
def payToks (c : Dev nD) : sProp 𝕄 :=
  iprop(dutyTok ER (cell (src σ c) 0) 0 () ∗ dutyTok ER (cell c 1) 0 () ∗ dutyTok ER (cell (dst σ c) 2) 0 () ∗ dutyTok ER (cell c 3) 0 ()
    ∗ dutyTok ER (cell (dst σ c) 4) 0 () ∗ dutyTok ER (cell c 5) 0 () ∗ dutyTok ER (cell (dst σ c) 6) 0 ())
/-- What device `c` alone holds: its place in the round of each of its cells, and those duties. -/
def linear (c : Dev nD) : sProp 𝕄 := iprop((bigSep Finset.univ fun k : Fin 7 => atPos ER (cell c k) 0 ∅ 0) ∗ payToks σ c)
/-- The records, with what device `c` alone holds. -/
def ghost (K : Dev nD × Fin 7 → ℕ) (c : Dev nD) : sProp 𝕄 := iprop(records m σ K ∗ linear σ c)

/-- The credit of the cells others pay. -/
def creds (c : Dev nD) : sProp 𝕄 :=
  iprop(cred (tallyAt (cell c 0) () 1) ∗ cred (tallyAt (cell c 2) () NS) ∗ cred (tallyAt (cell c 4) () NQ) ∗ cred (tallyAt (cell c 6) () NQ))
/-- What device `c` starts from. -/
def start (c : Dev nD) : sProp 𝕄 := iprop((∃ K, ghost m σ K c) ∗ creds (F := F) c ∗ levAts L lv)

/-- The four buffers the body uses, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- Before the body: that, and the buffers. -/
def Φ₀ (c : Dev nD) : sProp 𝕄 := iprop(start m σ c ∗ scratch (F := F) c)
/-- After it: every counter of the device at zero, and the buffers. -/
def Φ₁ (c : Dev nD) : sProp 𝕄 := iprop((bigSep Finset.univ fun k : Fin 7 => semVal (cell c k) 0) ∗ scratch (F := F) c)

omit [FloatOps F] in
/-- A conjunction over seven, written out. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The grid has one point, -/
theorem cfg0_N : cfg0.N = 1 := by decide
/-- this one, -/
def t₀ : Fin cfg0.N := ⟨0, by rw [cfg0_N]; decide⟩
/-- and no other. -/
theorem fin_N (t : Fin cfg0.N) : t = t₀ := by obtain ⟨t, ht⟩ := t; have := cfg0_N; exact Fin.ext (by simp only [t₀]; omega)

/-- The pipeline's data: the inputs are left as staged, the result is the block read back from what landed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => block m c
    | ⟨1, _⟩ => stagedTable m c
    | ⟨2, _⟩ => decoded (block m (src σ c))
  Φ t := match t with
    | ⟨0, _⟩ => Φ₀ m σ c
    | ⟨_ + 1, _⟩ => Φ₁ (F := F) c
  q _ := fullShare
  owed t := match t with
    | ⟨0, _⟩ => O₀ σ c
    | ⟨_ + 1, _⟩ => 0

/-- The body has no loop, so nothing to count down. -/
abbrev 𝒱₀ : Variants := Variants.none

/-- The block is staged before the body, -/
theorem fetch_0 (t : Fin cfg0.N) : (cfg0.win (0 : Fin 3)).fetch t = true := by rw [fin_N t]; rfl
/-- and so is the table. -/
theorem fetch_1 (t : Fin cfg0.N) : (cfg0.win (1 : Fin 3)).fetch t = true := by rw [fin_N t]; rfl

omit [FloatOps F] in
/-- A staging buffer owned whole is its points-to. -/
theorem staged_owns (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) :=
  owns_whole_eq (c : Thread nD τ) b fullShare X

/-- A staging buffer at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The copies and the waits -/

variable (K : Dev nD × Fin 7 → ℕ)

/-- One copy, from cell `k₁` of `c` to cell `k₂` of the device it sends to: the payloads are what is read and what lands. -/
theorem wp_copy (c n : Dev nD) (hn : n = dst σ c) {s : Shape} {e : EltTy} (S D : Memref sig .tc .vmem s e) (k₁ k₂ : Fin 7) (q₁ q₂ : DmaSem sig)
    (h₁ : csem k₁ = .dma q₁) (h₂ : csem k₂ = .dma q₂) (fs : Buf (Elt F) (S.view.loc (c : Thread nD τ))) (fd : Buf (Elt F) (D.view.loc (dst σ c : Thread nD τ)))
    (N : ℕ) (hN : D.view.dmaCredit = N) (hk₁ : amt k₁ = N) (hk₂ : amt k₂ = N)
    (O O' : CellTallies nD τ sig Unit) (hO : O = O' + tallyAt (cell (dst σ c) k₂) () N)
    (hp₁ : held S c fs = pay m σ c k₁) (hp₂ : held D (dst σ c) (D.view.write (Elt F) fd (S.view.read (Elt F) fs) Finset.univ) = pay m σ (dst σ c) k₂)
    {hsc : (D : Memref sig (Dev.tc n : Thread nD τ).2.kind .vmem s e).view.ref.isScScratch = false}
    {hsrc : S.view.WordExact} {hdst : D.view.WordExact}
    {hsem : DmaTarget.Typed .vmem (.dma q₂) (.remote (Dev.tc n : Thread nD τ) (D : Memref sig .tc .vmem s e) (.dma q₁) hsc)}
    {α : Type} {Q : α → sProp 𝕄} {k : PUnit → Prog (TpuEff nD τ sig (Elt F) Λ₀ .tc) α} (W : Waits sig Unit) :
    iprop(records m σ K ∗ held S c fs ∗ held D (dst σ c) fd ∗ owes (c : Thread nD τ) O W ∗ dutyTok ER (cell c k₁) 0 () ∗ dutyTok ER (cell (dst σ c) k₂) 0 ())
      ⊢ iprop(((cred (tallyAt (cell c k₁) () N) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma S (.remote (Dev.tc n : Thread nD τ) D (.dma q₁) hsc) (.dma q₂) hsrc hdst hsem) k) Q) := by
  subst hn
  have d₁ := mem_duties m σ c k₁
  have d₂ := mem_duties m σ (dst σ c) k₂
  have a₁ := (amount_cell m σ c k₁).trans hk₁
  have a₂ := (amount_cell m σ (dst σ c) k₂).trans hk₂
  have p₁ := hp₁.trans (payload_cell m σ c k₁).symm
  have p₂ := hp₂.trans (payload_cell m σ (dst σ c) k₂).symm
  iintro ⟨#HR, Hs, Hd, HO, Ht₁, Ht₂⟩
  ihave #I₁ := (inv_at m σ K c k₁) $$ HR
  ihave #I₂ := (inv_at m σ K (dst σ c) k₂) $$ HR
  ihave #R₁ := (reached_at m σ K c k₁) $$ HR
  ihave #R₂ := (reached_at m σ K (dst σ c) k₂) $$ HR
  unfold cell at *
  rw [h₁, h₂] at *
  unfold held at *
  iintro Hk
  iapply (Rounds.wp_send_pointsTo 𝒱₀ ER (Rd m σ) (c : Thread nD τ) none (κ₁ := K (c, k₁)) (κ₂ := K (dst σ c, k₂))
    (r₁ := 0) (r₂ := 0) (d₁ := ()) (d₂ := ()) (fs := fs) (fd := fd) d₁ d₂ () () N hN a₁ a₂ O' hO (W := W) (Entails.of_eq p₁) (Entails.of_eq p₂)) $$ [Hs Hd HO Ht₁ Ht₂]
  · isplitr; · iexact I₁
    isplitr; · iexact I₂
    isplitl [Hs]; · iexact Hs
    isplitl [Hd]; · iexact Hd
    isplitl [HO]; · iexact HO
    isplitl [Ht₁]; · iexact Ht₁
    isplitr; · iexact R₁
    isplitl [Ht₂]; · iexact Ht₂
    iexact R₂
  iexact Hk

/-- A wait on one of the copies' cells, owing nothing: the cell's payload comes back. -/
theorem wp_wait_copy (c : Dev nD) (j : Fin 7) (q : DmaSem sig) (hq : csem j = .dma q) (W : Waits sig Unit)
    {s s' : Shape} {e e' : EltTy} {S : Memref sig .tc .vmem s e} {D : Memref sig .tc .vmem s' e'} {hsrc : S.view.WordExact} {hdst : D.view.WordExact} (hN : D.view.dmaCredit = amt j)
    {α : Type} {Q : α → sProp 𝕄} {k : PUnit → Prog (TpuEff nD τ sig (Elt F) Λ₀ .tc) α} :
    iprop(records m σ K ∗ cred (tallyAt (cell c j) () (amt j)) ∗ owes (c : Thread nD τ) 0 W ∗ atPos ER (cell c j) 0 ∅ 0)
      ⊢ iprop(((owes (c : Thread nD τ) 0 (insert (csem j, ()) W) ∗ atPos ER (cell c j) (0 + 1) ∅ 0 ∗ pay m σ c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q S D hsrc hdst) k) Q) := by
  have he := expect_cell m σ c j
  have hr := rest_cell m σ c j
  iintro ⟨#HR, Hc, HO, Hat⟩ Hk
  ihave #HI := (inv_at m σ K c j) $$ HR
  unfold cell at *
  rw [hq] at *
  iapply (Rounds.wp_wait_rest_token 𝒱₀ ER (Rd m σ) (c : Thread nD τ) none (κ := K (c, j))
      (wpE_waitDma2_eq 𝒱₀ (c : Thread nD τ) none Set.univ) (Set.mem_univ _) () (O := 0) (W := W) (R := 0) (m := 0) (T := ∅)
      (by rw [Nat.zero_add, hN, he])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq hr); iexact Hpay

/-- After its one round a cell closes, its counter at zero. -/
theorem close_cell (c : Dev nD) (j : Fin 7) : iprop(records m σ K ∗ atPos ER (cell c j) (0 + 1) ∅ 0) ⊢ (|={Set.univ}=> semVal (cell c j) 0 : sProp 𝕄) := by
  iintro ⟨#HR, Hat⟩
  ihave #HI := (inv_at m σ K c j) $$ HR
  imod (Rounds.cell_close ER (Rd m σ) (Set.mem_univ (K (c, j))) (fun h => h) (R := 0 + 1) (duties_later m σ (cell c j))) $$ [Hat] with Hz
  · isplitr; · iexact HI
    iexact Hat
  imodintro
  iexact Hz

end Cert.Permute

end
-- ==== Proof.Exec.lean ====
/-
The body's run at one device, one rule per effect in program order.
-/
module

public import proofs.«01_k».proof.Proof.Body

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (σ : Route)
variable (K : Dev nD × Fin 7 → ℕ)

/-! ## The barrier -/

/-- The signal to the device `c` receives from: `c`'s three landing buffers go with it. -/
theorem wp_signal_src (c n : Dev nD) (hn : n = src σ c) (W : Waits sig Unit)
    {α : Type} {Q : α → sProp 𝕄} {k : PUnit → Prog (TpuEff nD τ sig (Elt F) Λ₀ .tc) α} :
    iprop(records m σ K ∗ owes (c : Thread nD τ) (O₀ σ c) W ∗ dutyTok ER (cell (src σ c) 0) 0 ()
        ∗ (∃ f, held (F := F) srM c f) ∗ (∃ f, held (F := F) (chunkA qrM) c f) ∗ (∃ f, held (F := F) (chunkB qrM) c f))
      ⊢ iprop((owes (c : Thread nD τ) (O₁ σ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) barS (1#32 : BitVec 32).toInt) k) Q) := by
  subst hn
  have hp : iprop((∃ f, held (F := F) srM c f) ∗ (∃ f, held (F := F) (chunkA qrM) c f) ∗ (∃ f, held (F := F) (chunkB qrM) c f))
      = (Rd (F := F) m σ).payload (cell (src σ c) 0) 0 () := by
    rw [payload_cell]; unfold pay; rw [dst_src]
  iintro ⟨#HR, HO, Ht, Hp⟩ Hk
  ihave #HI := (inv_at m σ K (src σ c) 0) $$ HR
  ihave #Hr := (reached_at m σ K (src σ c) 0) $$ HR
  rw [show (1#32 : BitVec 32).toInt = ((1#32 : BitVec 32).toNat : Int) from rfl]
  unfold O₀
  iapply (Rounds.wp_signal 𝒱₀ ER (Rd m σ) (c : Thread nD τ) none (dst := (src σ c : Thread nD τ)) (κ := K (src σ c, 0))
      (d := ()) (mem_duties m σ (src σ c) 0) ((amount_cell m σ (src σ c) 0).trans rfl) () (O₁ σ c) rfl) $$ [HO Ht Hp]
  · isplitr; · iexact HI
    isplitl [HO]; · iexact HO
    isplitl [Ht]; · iexact Ht
    isplitl [Hp]
    · iapply (Entails.of_eq hp); iexact Hp
    · iexact Hr
  iexact Hk

/-- The wait on its own barrier cell, owing the three copies: the landing buffers of the device `c` sends to come with it. -/
theorem wp_wait_barrier (c : Dev nD) (W : Waits sig Unit)
    {α : Type} {Q : α → sProp 𝕄} {k : PUnit → Prog (TpuEff nD τ sig (Elt F) Λ₀ .tc) α} :
    iprop(records m σ K ∗ levAts L lv ∗ cred (tallyAt (cell c 0) () 1) ∗ owes (c : Thread nD τ) (O₁ σ c) W ∗ atPos ER (cell c 0) 0 ∅ 0)
      ⊢ iprop(((owes (c : Thread nD τ) (O₁ σ c) (insert (SemLoc.reg barS, ()) W) ∗ atPos ER (cell c 0) (0 + 1) ∅ 0
            ∗ (∃ f, held (F := F) srM (dst σ c) f) ∗ (∃ f, held (F := F) (chunkA qrM) (dst σ c) f) ∗ (∃ f, held (F := F) (chunkB qrM) (dst σ c) f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (1#32 : BitVec 32).toInt) k) Q) := by
  iintro ⟨#HR, #Hlev, Hc, HO, Hat⟩ Hk
  ihave #HI := (inv_at m σ K c 0) $$ HR
  rw [show (1#32 : BitVec 32).toInt = ((1#32 : BitVec 32).toNat : Int) from rfl]
  iapply (Rounds.wp_wait_rest_token 𝒱₀ ER (Rd m σ) (c : Thread nD τ) none (κ := K (c, 0))
      (wpE_semWait_eq 𝒱₀ (c : Thread nD τ) none Set.univ) (Set.mem_univ _) () (O := O₁ σ c) (W := W) (R := 0) (m := 0) (T := ∅)
      (by rw [Nat.zero_add]; exact ((expect_cell m σ c 0).trans rfl).symm)) $$ [Hc HO Hat]
  · isplitr; · iexact HI
    isplitl [Hc]; · iexact Hc
    isplitl [HO]; · iexact HO
    isplitr; · iapply (mayWait_barrier σ c); iexact Hlev
    iexact Hat
  iintro ⟨HO, Hat, -, Hpay⟩
  iapply Hk
  isplitl [HO]; · iexact HO
  isplitl [Hat]; · iexact Hat
  ihave Hpay := (Entails.of_eq (rest_cell m σ c 0)) $$ Hpay
  unfold pay; iexact Hpay

/-! ## Loads and stores -/

omit [FloatOps F] in
/-- Offsets written as zeros are zero, in three places -/
theorem hz3 : (![0, 0, 0] : Fin 3 → Nat) = fun _ => 0 := funext fun a => by fin_cases a <;> rfl
omit [FloatOps F] in
/-- and in two. -/
theorem hz2 : (![0, 0] : Fin 2 → Nat) = fun _ => 0 := funext fun a => by fin_cases a <;> rfl

/-- The whole of a block, -/
abbrev rX : Rect S1x512x512 := Rect.unit (s := S1x512x512) ![0, 0, 0] S1x512x512.size inb_S1x512x512_S1x512x512_0_0_0
/-- and of a row of scales. -/
abbrev rS : Rect S1x512 := Rect.unit (s := S1x512) ![0, 0] S1x512.size inb_S1x512_S1x512_0_0

omit [FloatOps F] in
/-- A load of the whole block reads it, -/
theorem read_block (f : (cc0_stg0_0 : Ref sig .tc).ty.Contents (Elt F)) : (xM : Memref sig .tc .vmem S1x512x512 .f32).view.readAt (Elt F) rX.toLoadRect f = f :=
  Memref.readAt_unit_zero (Elt F) cc0_stg0_0 hz3 _ _
omit [FloatOps F] in
/-- a load of the whole scales reads them, -/
theorem read_scales (f : (cc0_scratch3 : Ref sig .tc).ty.Contents (Elt F)) : (srM : Memref sig .tc .vmem S1x512 .f32).view.readAt (Elt F) rS.toLoadRect f = f :=
  Memref.readAt_unit_zero (Elt F) cc0_scratch3 hz2 _ _
omit [FloatOps F] in
/-- and a store of the whole scales leaves what was stored. -/
theorem write_scales (f w : (cc0_scratch2 : Ref sig .tc).ty.Contents (Elt F)) :
    (ssM.access rS : View sig .tc _ _ _).write (Elt F) f w Finset.univ = w :=
  Memref.write_access_unit_zero_univ (Elt F) cc0_scratch2 hz2 _ f w

/-- A part of a buffer, as the effects on the whole buffer see it. -/
theorem part_qsA (c : Dev nD) (f : Buf (Elt F) ((c : Thread nD τ).loc cc0_scratch0)) :
    held (chunkA qsM) c f = (((c : Thread nD τ).loc cc0_scratch0) ↦[rA.set]{fullShare} f : sProp 𝕄) := by unfold held; rw [qsA_set]
/-- So for the second chunk sent, -/
theorem part_qsB (c : Dev nD) (f : Buf (Elt F) ((c : Thread nD τ).loc cc0_scratch0)) :
    held (chunkB qsM) c f = (((c : Thread nD τ).loc cc0_scratch0) ↦[rB.set]{fullShare} f : sProp 𝕄) := by unfold held; rw [qsB_set]
/-- the first received, -/
theorem part_qrA (c : Dev nD) (f : Buf (Elt F) ((c : Thread nD τ).loc cc0_scratch1)) :
    held (chunkA qrM) c f = (((c : Thread nD τ).loc cc0_scratch1) ↦[rA.set]{fullShare} f : sProp 𝕄) := by unfold held; rw [qrA_set]
/-- and the second received. -/
theorem part_qrB (c : Dev nD) (f : Buf (Elt F) ((c : Thread nD τ).loc cc0_scratch1)) :
    held (chunkB qrM) c f = (((c : Thread nD τ).loc cc0_scratch1) ↦[rB.set]{fullShare} f : sProp 𝕄) := by unfold held; rw [qrB_set]
/-- What the body takes from its cells. -/
theorem pay_2 (c : Dev nD) : pay (F := F) m σ c 2 = (((c : Thread nD τ).loc cc0_scratch3) ↦{fullShare} scales (block m (src σ c)) : sProp 𝕄) := by
  unfold pay; exact sr_held c _

/-- Its own scales back, when they are sent, -/
theorem pay_1 (c : Dev nD) : pay (F := F) m σ c 1 = (((c : Thread nD τ).loc cc0_scratch2) ↦{fullShare} scales (block m c) : sProp 𝕄) := by
  unfold pay; exact ss_held c _
/-- its first chunk back, -/
theorem pay_3 (c : Dev nD) : pay (F := F) m σ c 3 = held (chunkA qsM) c (bytes (block m c)) := by unfold pay; rfl
/-- its second chunk back, -/
theorem pay_5 (c : Dev nD) : pay (F := F) m σ c 5 = held (chunkB qsM) c (bytes (block m c)) := by unfold pay; rfl
/-- the first chunk of the device it receives from, -/
theorem pay_4 (c : Dev nD) : pay (F := F) m σ c 4 = (((c : Thread nD τ).loc cc0_scratch1) ↦[rA.set]{fullShare} bytes (block m (src σ c)) : sProp 𝕄) := by
  unfold pay; exact part_qrA c _
/-- and that device's second chunk. -/
theorem pay_6 (c : Dev nD) : pay (F := F) m σ c 6 = (((c : Thread nD τ).loc cc0_scratch1) ↦[rB.set]{fullShare} bytes (block m (src σ c)) : sProp 𝕄) := by
  unfold pay; exact part_qrB c _

/-- A load or a store through a rectangle of a whole buffer reaches the rectangle's elements. -/
theorem reads_set (b : Ref sig .tc) (r : Rect b.ty.1) : (Memref.whole b : Memref sig .tc _ _ _).view.setOn r.set ⊆ r.set := by
  rw [show (Memref.whole b : Memref sig .tc _ _ _).view.setOn r.set = r.set from (View.set_slice _ r).symm.trans (View.set_slice_whole b r)]
/-- So for a store. -/
theorem writes_set (b : Ref sig .tc) (r : Rect b.ty.1) : ((Memref.whole b : Memref sig .tc _ _ _).access r).setOn Finset.univ ⊆ r.set := by
  rw [View.setOn_univ]; exact (View.set_slice_whole b r).le

/-- After the store of the first chunk, that chunk holds the block's bytes, -/
theorem stored_A (c : Dev nD) (f : Buf (Elt F) ((chunkA qsM).view.loc (c : Thread nD τ))) (x : S1x512x512.Idx → Elt F .f32) :
    held (chunkA qsM) c ((qsM.access rA : View sig .tc _ _ _).write (Elt F) f (k0_pay7 (k0_pay2 x) (k0_pay3 x)) Finset.univ) = held (F := F) (chunkA qsM) c (bytes x) :=
  held_congr (chunkA qsM) c fun i hi => bothBytes_A f (fun _ => (0#8 : BitVec 8)) (bytesA x) (bytesB x) i (qsA_set ▸ hi)
/-- and so for the second. -/
theorem stored_B (c : Dev nD) (f : Buf (Elt F) ((chunkB qsM).view.loc (c : Thread nD τ))) (x : S1x512x512.Idx → Elt F .f32) :
    held (chunkB qsM) c ((qsM.access rB : View sig .tc _ _ _).write (Elt F) f (k0_pay8 (k0_pay2 x) (k0_pay6 (k0_pay3 x))) Finset.univ) = held (F := F) (chunkB qsM) c (bytes x) :=
  held_congr (chunkB qsM) c fun i hi => bothBytes_B f (fun _ => (0#8 : BitVec 8)) (bytesA x) (bytesB x) i (qsB_set ▸ hi)

/-- What a copy leaves is what its target's receiving cell is to hand over: for the scales, -/
theorem landed_S (c : Dev nD) (fd : Buf (Elt F) (srM.view.loc (dst σ c : Thread nD τ))) :
    held srM (dst σ c) (srM.view.write (Elt F) fd (ssM.view.read (Elt F) (scales (block m c))) Finset.univ) = pay m σ (dst σ c) 2 := by
  unfold pay; dsimp only; rw [src_dst]
  exact congrArg (held srM (dst σ c)) ((View.write_whole_univ _ _ _).trans (View.read_whole _ _))
/-- the first chunk, -/
theorem landed_A (c : Dev nD) (fd : Buf (Elt F) ((chunkA qrM).view.loc (dst σ c : Thread nD τ))) :
    held (chunkA qrM) (dst σ c) ((chunkA qrM).view.write (Elt F) fd ((chunkA qsM).view.read (Elt F) (bytes (block m c))) Finset.univ) = pay m σ (dst σ c) 4 := by
  unfold pay; dsimp only; rw [src_dst]
  exact held_congr (chunkA qrM) (dst σ c) fun i hi => copyA fd (bytes (block m c)) i (qrA_set ▸ hi)
/-- and the second. -/
theorem landed_B (c : Dev nD) (fd : Buf (Elt F) ((chunkB qrM).view.loc (dst σ c : Thread nD τ))) :
    held (chunkB qrM) (dst σ c) ((chunkB qrM).view.write (Elt F) fd ((chunkB qsM).view.read (Elt F) (bytes (block m c))) Finset.univ) = pay m σ (dst σ c) 6 := by
  unfold pay; dsimp only; rw [src_dst]
  exact held_congr (chunkB qrM) (dst σ c) fun i hi => copyB fd (bytes (block m c)) i (qrB_set ▸ hi)

/-- The two stores of the result leave the decoded block. -/
theorem stored_out (f : S1x512x512.Idx → Elt F .f32) (x : S1x512x512.Idx → Elt F .f32) :
    (oM.access rB : View sig .tc _ _ _).write (Elt F) ((oM.access rA : View sig .tc _ _ _).write (Elt F) f (k0_pay10 (scales x) (bytesA x)) Finset.univ)
      (k0_pay1 (k0_pay9 (scales x)) (bytesB x)) Finset.univ = decoded x := bothFloats_any f x _ _

/-! ## The credit of each copy's two ends -/

/-- Each end of a copy is credited its cell's amount: the scales' sending end, -/
theorem credit_1 : ssM.view.dmaCredit = amt 1 := rfl
/-- their receiving end, -/
theorem credit_2 : srM.view.dmaCredit = amt 2 := rfl
/-- the first chunk's sending end, -/
theorem credit_3 : (chunkA qsM).view.dmaCredit = amt 3 := rfl
/-- its receiving end, -/
theorem credit_4 : (chunkA qrM).view.dmaCredit = amt 4 := rfl
/-- the second chunk's sending end, -/
theorem credit_5 : (chunkB qsM).view.dmaCredit = amt 5 := rfl
/-- and its receiving end. -/
theorem credit_6 : (chunkB qrM).view.dmaCredit = amt 6 := rfl

/-! ## The run -/

/-- What the body starts from on device `c`, and the staged buffers, -/
def bodyPre (c : Dev nD) : sProp 𝕄 :=
  iprop((ghost m σ K c ∗ creds (F := F) c ∗ levAts L lv ∗ scratch (F := F) c)
    ∗ (dats m ρ σ 0 c).owesAt () t₀.castSucc
    ∗ (∃ d, stg c cc0_stg0_0 ((dats m ρ σ 0 c).before (0 : Fin 3) t₀ d))
    ∗ (∃ d, stg c cc0_stg1_0 ((dats m ρ σ 0 c).before (1 : Fin 3) t₀ d))
    ∗ (∃ d, stg c cc0_stg2_0 ((dats m ρ σ 0 c).before (2 : Fin 3) t₀ d)))

/-- and what it ends with: the inputs as they were, the result at the decoded block of the device it receives from. -/
def bodyPost (c : Dev nD) : sProp 𝕄 :=
  iprop(Φ₁ (F := F) c ∗ (dats m ρ σ 0 c).owesAt () t₀.succ
    ∗ stg c cc0_stg0_0 (block m c) ∗ stg c cc0_stg1_0 (stagedTable m c) ∗ stg c cc0_stg2_0 (decoded (block m (src σ c))))

set_option maxHeartbeats 4000000 in
/-- The body run from `bodyPre` to `bodyPost`, its table spelling `σ`. -/
theorem sound_body (c : Dev nD) (hT : stagedTable m c = table σ) (Kt : PUnit → sProp 𝕄) :
    iprop(bodyPre m ρ σ K c ∗ (bodyPost m ρ σ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, smemLoad, smemLoadElt, Prog.lift, Prog.bind_op, Prog.bind_ret, Prog.pure_eq_ret, Prog.bind_assoc, wp_deviceId]
  simp only [sSend_eq, sRecv_eq, aSend_eq, aRecv_eq, bSend_eq, bRecv_eq]
  unfold bodyPre ghost linear payToks creds scratch
  rw [bigSep_fin7]
  iintro ⟨⟨⟨⟨#HR, ⟨Hat0, Hat1, Hat2, Hat3, Hat4, Hat5, Hat6⟩, Ht0, Ht1, Ht2, Ht3, Ht4, Ht5, Ht6⟩, ⟨Hc0, Hc2, Hc4, Hc6⟩, #Hlev,
      ⟨%fq, Hq⟩, ⟨%fr, Hr⟩, ⟨%fs, Hs⟩, ⟨%ft, Ht⟩⟩, Ho, ⟨%d0, %g0, %hg0, Hx⟩, ⟨%d1, %g1, %hg1, Htab⟩, ⟨%d2, %g2, %hg2, Hout⟩⟩, Hk⟩
  have hx : g0 = block m c := by rw [hg0]; unfold Dat.before; rw [if_pos (fetch_0 t₀)]; rfl
  subst hx
  have ht : g1 = table σ := by rw [hg1, ← hT]; unfold Dat.before; rw [if_pos (fetch_1 t₀)]; rfl
  subst ht
  unfold Dat.owesAt Pipeline.owesWithin
  icases Ho with ⟨%W, %hW, HO⟩
  rw [show (dats m ρ σ 0 c).owed t₀.castSucc = O₀ σ c from rfl]
  -- the table's word at the device's own position, then its four words
  iapply (wp_load_rect 𝒱₀ (c : Thread nD τ) none Set.univ (m := tM) (r := rOwn c) (Finset.subset_univ _)) $$ Htab; iintro Htab
  simp only [wp_assume_of _ _ _ _ (d := k0_chk2.dec _ _) (ownChk (F := F) σ c)]
  iapply (wp_load_rect 𝒱₀ (c : Thread nD τ) none Set.univ (m := tM) (r := rK0) (Finset.subset_univ _)) $$ Htab; iintro Htab
  iapply (wp_load_rect 𝒱₀ (c : Thread nD τ) none Set.univ (m := tM) (r := rK1) (Finset.subset_univ _)) $$ Htab; iintro Htab
  iapply (wp_load_rect 𝒱₀ (c : Thread nD τ) none Set.univ (m := tM) (r := rK2) (Finset.subset_univ _)) $$ Htab; iintro Htab
  iapply (wp_load_rect 𝒱₀ (c : Thread nD τ) none Set.univ (m := tM) (r := rK3) (Finset.subset_univ _)) $$ Htab; iintro Htab
  simp only [wp_assume_of _ _ _ _ (d := k0_chk1.dec _ _ _ _ _) (signalChk (F := F) σ c)]
  -- the signal
  ihave Hr2 := (qr_chunks c fr).1 $$ Hr
  icases Hr2 with ⟨HrA, HrB⟩
  iapply (wp_signal_src m σ K c _ (signalDev (F := F) σ c (signalChk (F := F) σ c)) W) $$ [HO Ht0 Ht HrA HrB]
  · isplitr; · iexact HR
    isplitl [HO]; · iexact HO
    isplitl [Ht0]; · iexact Ht0
    isplitl [Ht]; · iexists ft; rw [sr_held]; iexact Ht
    isplitl [HrA]; · iexists fr; iexact HrA
    iexists fr; iexact HrB
  iintro HO
  -- the block, quantised: the scales, the first chunk
  iapply (wp_load 𝒱₀ (c : Thread nD τ) none Set.univ (m := xM) (r := rX.toLoadRect) (Finset.subset_univ _)) $$ Hx; iintro Hx
  rw [read_block]
  iapply (wp_load 𝒱₀ (c : Thread nD τ) none Set.univ (m := ssM) (r := rS.toLoadRect) (Finset.subset_univ _)) $$ Hs; iintro Hs
  iapply (wp_store 𝒱₀ (c : Thread nD τ) none Set.univ (m := ssM) (r := rS) (Mk := Finset.univ) (Finset.subset_univ _)) $$ Hs; iintro Hs
  rw [write_scales]
  ihave Hq2 := (qs_chunks c fq).1 $$ Hq
  icases Hq2 with ⟨HqA, HqB⟩
  ihave HqA := (Entails.of_eq (part_qsA c fq)) $$ HqA
  iapply (wp_load 𝒱₀ (c : Thread nD τ) none Set.univ (m := qsM) (r := rA.toLoadRect) (reads_set cc0_scratch0 rA)) $$ HqA; iintro HqA
  iapply (wp_store 𝒱₀ (c : Thread nD τ) none Set.univ (m := qsM) (r := rA) (Mk := Finset.univ) (writes_set cc0_scratch0 rA)) $$ HqA; iintro HqA
  ihave HqA := (Entails.of_eq ((part_qsA c _).symm.trans (stored_A c fq (block m c)))) $$ HqA
  -- the barrier
  iapply (wp_wait_barrier m σ K c W) $$ [HO Hc0 Hat0]
  · isplitr; · iexact HR
    isplitr; · iexact Hlev
    isplitl [Hc0]; · iexact Hc0
    isplitl [HO]; · iexact HO
    iexact Hat0
  iintro ⟨HO, Hat0, ⟨%ls, Hls⟩, ⟨%la, Hla⟩, ⟨%lb, Hlb⟩⟩
  -- the three copies, the second chunk quantised before the last
  iapply (wp_copy m σ K c _ (copyDev2 (F := F) σ c (ownChk σ c)) ssM srM 1 2 _ _ rfl rfl (scales (block m c)) ls NS rfl rfl rfl (O₁ σ c) (O₂ σ c) rfl
      rfl (landed_S m σ c ls) _) $$ [Hs Hls HO Ht1 Ht2]
  · isplitr; · iexact HR
    isplitl [Hs]; · rw [ss_held]; iexact Hs
    isplitl [Hls]; · iexact Hls
    isplitl [HO]; · iexact HO
    isplitl [Ht1]; · iexact Ht1
    iexact Ht2
  iintro ⟨Hc1, HO⟩
  iapply (wp_copy m σ K c _ (copyDev3 (F := F) σ c (ownChk σ c)) (chunkA qsM) (chunkA qrM) 3 4 _ _ rfl rfl (bytes (block m c)) la NQ rfl rfl rfl (O₂ σ c) (O₃ σ c) rfl
      rfl (landed_A m σ c la) _) $$ [HqA Hla HO Ht3 Ht4]
  · isplitr; · iexact HR
    isplitl [HqA]; · iexact HqA
    isplitl [Hla]; · iexact Hla
    isplitl [HO]; · iexact HO
    isplitl [Ht3]; · iexact Ht3
    iexact Ht4
  iintro ⟨Hc3, HO⟩
  ihave HqB := (Entails.of_eq (part_qsB c fq)) $$ HqB
  iapply (wp_load 𝒱₀ (c : Thread nD τ) none Set.univ (m := qsM) (r := rB.toLoadRect) (reads_set cc0_scratch0 rB)) $$ HqB; iintro HqB
  iapply (wp_store 𝒱₀ (c : Thread nD τ) none Set.univ (m := qsM) (r := rB) (Mk := Finset.univ) (writes_set cc0_scratch0 rB)) $$ HqB; iintro HqB
  ihave HqB := (Entails.of_eq ((part_qsB c _).symm.trans (stored_B c fq (block m c)))) $$ HqB
  iapply (wp_copy m σ K c _ (copyDev4 (F := F) σ c (ownChk σ c)) (chunkB qsM) (chunkB qrM) 5 6 _ _ rfl rfl (bytes (block m c)) lb NQ rfl rfl rfl (O₃ σ c) 0 (zero_add _).symm
      rfl (landed_B m σ c lb) _) $$ [HqB Hlb HO Ht5 Ht6]
  · isplitr; · iexact HR
    isplitl [HqB]; · iexact HqB
    isplitl [Hlb]; · iexact Hlb
    isplitl [HO]; · iexact HO
    isplitl [Ht5]; · iexact Ht5
    iexact Ht6
  iintro ⟨Hc5, HO⟩
  -- the scales are out and in
  iapply (wp_wait_copy m σ K c 1 _ rfl _ (S := srM) (D := ssM) (credit_1)) $$ [HO Hc1 Hat1]
  · isplitr; · iexact HR
    isplitl [Hc1]; · iexact Hc1
    isplitl [HO]; · iexact HO
    iexact Hat1
  iintro ⟨HO, Hat1, Hs⟩
  ihave Hs := (Entails.of_eq (pay_1 m σ c)) $$ Hs
  iapply (wp_wait_copy m σ K c 2 _ rfl _ (S := ssM) (D := srM) (credit_2)) $$ [HO Hc2 Hat2]
  · isplitr; · iexact HR
    isplitl [Hc2]; · iexact Hc2
    isplitl [HO]; · iexact HO
    iexact Hat2
  iintro ⟨HO, Hat2, Hr2⟩
  ihave Hr2 := (Entails.of_eq (pay_2 m σ c)) $$ Hr2
  iapply (wp_load 𝒱₀ (c : Thread nD τ) none Set.univ (m := srM) (r := rS.toLoadRect) (Finset.subset_univ _)) $$ Hr2; iintro Hr2
  rw [read_scales]
  -- the first chunk is out and in
  iapply (wp_wait_copy m σ K c 3 _ rfl _ (S := chunkA qrM) (D := chunkA qsM) (credit_3)) $$ [HO Hc3 Hat3]
  · isplitr; · iexact HR
    isplitl [Hc3]; · iexact Hc3
    isplitl [HO]; · iexact HO
    iexact Hat3
  iintro ⟨HO, Hat3, HqA⟩
  ihave HqA := (Entails.of_eq (pay_3 m σ c)) $$ HqA
  iapply (wp_wait_copy m σ K c 4 _ rfl _ (S := chunkA qsM) (D := chunkA qrM) (credit_4)) $$ [HO Hc4 Hat4]
  · isplitr; · iexact HR
    isplitl [Hc4]; · iexact Hc4
    isplitl [HO]; · iexact HO
    iexact Hat4
  iintro ⟨HO, Hat4, HrA⟩
  ihave HrA := (Entails.of_eq (pay_4 m σ c)) $$ HrA
  iapply (wp_load 𝒱₀ (c : Thread nD τ) none Set.univ (m := qrM) (r := rA.toLoadRect) (reads_set cc0_scratch1 rA)) $$ HrA; iintro HrA
  rw [read_bytesA]
  iapply (wp_load 𝒱₀ (c : Thread nD τ) none Set.univ (m := oM) (r := rA.toLoadRect) (Finset.subset_univ _)) $$ Hout; iintro Hout
  iapply (wp_store 𝒱₀ (c : Thread nD τ) none Set.univ (m := oM) (r := rA) (Mk := Finset.univ) (Finset.subset_univ _)) $$ Hout; iintro Hout
  -- and the second
  iapply (wp_wait_copy m σ K c 5 _ rfl _ (S := chunkB qrM) (D := chunkB qsM) (credit_5)) $$ [HO Hc5 Hat5]
  · isplitr; · iexact HR
    isplitl [Hc5]; · iexact Hc5
    isplitl [HO]; · iexact HO
    iexact Hat5
  iintro ⟨HO, Hat5, HqB⟩
  ihave HqB := (Entails.of_eq (pay_5 m σ c)) $$ HqB
  iapply (wp_wait_copy m σ K c 6 _ rfl _ (S := chunkB qsM) (D := chunkB qrM) (credit_6)) $$ [HO Hc6 Hat6]
  · isplitr; · iexact HR
    isplitl [Hc6]; · iexact Hc6
    isplitl [HO]; · iexact HO
    iexact Hat6
  iintro ⟨HO, Hat6, HrB⟩
  ihave HrB := (Entails.of_eq (pay_6 m σ c)) $$ HrB
  iapply (wp_load 𝒱₀ (c : Thread nD τ) none Set.univ (m := qrM) (r := rB.toLoadRect) (reads_set cc0_scratch1 rB)) $$ HrB; iintro HrB
  rw [read_bytesB]
  iapply (wp_load 𝒱₀ (c : Thread nD τ) none Set.univ (m := oM) (r := rB.toLoadRect) (Finset.subset_univ _)) $$ Hout; iintro Hout
  iapply (wp_store 𝒱₀ (c : Thread nD τ) none Set.univ (m := oM) (r := rB) (Mk := Finset.univ) (Finset.subset_univ _)) $$ Hout; iintro Hout
  rw [stored_out]
  -- the cells close
  rw [wp_ret]
  imod (close_cell m σ K c 0) $$ [Hat0] with Hz0
  · isplitr; · iexact HR
    iexact Hat0
  imod (close_cell m σ K c 1) $$ [Hat1] with Hz1
  · isplitr; · iexact HR
    iexact Hat1
  imod (close_cell m σ K c 2) $$ [Hat2] with Hz2
  · isplitr; · iexact HR
    iexact Hat2
  imod (close_cell m σ K c 3) $$ [Hat3] with Hz3
  · isplitr; · iexact HR
    iexact Hat3
  imod (close_cell m σ K c 4) $$ [Hat4] with Hz4
  · isplitr; · iexact HR
    iexact Hat4
  imod (close_cell m σ K c 5) $$ [Hat5] with Hz5
  · isplitr; · iexact HR
    iexact Hat5
  imod (close_cell m σ K c 6) $$ [Hat6] with Hz6
  · isplitr; · iexact HR
    iexact Hat6
  imodintro
  iapply Hk
  unfold bodyPost Φ₁ scratch
  rw [bigSep_fin7]
  isplitr [HO Hx Htab Hout]
  · isplitl [Hz0 Hz1 Hz2 Hz3 Hz4 Hz5 Hz6]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      iexact Hz6
    isplitl [HqA HqB]
    · iexists (bytes (block m c))
      iapply (qs_chunks c (bytes (block m c))).2
      isplitl [HqA]; · iexact HqA
      iexact HqB
    isplitl [HrA HrB]
    · iexists (bytes (block m (src σ c)))
      iapply (qr_chunks c (bytes (block m (src σ c)))).2
      isplitl [HrA]; · iapply (Entails.of_eq (part_qrA c (bytes (block m (src σ c)))).symm); iexact HrA
      iapply (Entails.of_eq (part_qrB c (bytes (block m (src σ c)))).symm); iexact HrB
    isplitl [Hs]
    · iexists (scales (block m c)); iexact Hs
    iexists (scales (block m (src σ c))); iexact Hr2
  isplitl [HO]
  · unfold Dat.owesAt Pipeline.owesWithin
    rw [show (dats m ρ σ 0 c).owed t₀.succ = 0 from rfl]
    iexists (insert (csem 6, ()) (insert (csem 5, ()) (insert (csem 4, ()) (insert (csem 3, ()) (insert (csem 2, ()) (insert (csem 1, ())
      (insert (SemLoc.reg barS, ()) W)))))))
    isplitr
    · ipureintro; exact fun _ _ => Or.inl trivial
    iexact HO
  isplitl [Hx]
  · iexists _; isplitr; · ipureintro; rfl
    iexact Hx
  isplitl [Htab]
  · iexists _; isplitr; · ipureintro; exact hT.symm
    iexact Htab
  iexists _; isplitr; · ipureintro; rfl
  iexact Hout

end Cert.Permute

end
-- ==== Proof.Run.lean ====
/-
The launch: the cells, their duties and credit dealt to the devices, and the run of @main from them.
-/
module

public import proofs.«01_k».proof.Proof.Exec
public import Idealize.ShloMosaic.Lib.Pipeline.CollectiveSegs

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (σ : Route)

/-! ## The body's obligation -/

/-- What the pipeline gives the body at its one point. -/
def bodyPre' (c : Dev nD) : sProp 𝕄 :=
  iprop(Φ₀ m σ c ∗ (dats m ρ σ 0 c).owesAt () t₀.castSucc
    ∗ (∃ d, stg c cc0_stg0_0 ((dats m ρ σ 0 c).before (0 : Fin 3) t₀ d))
    ∗ (∃ d, stg c cc0_stg1_0 ((dats m ρ σ 0 c).before (1 : Fin 3) t₀ d))
    ∗ (∃ d, stg c cc0_stg2_0 ((dats m ρ σ 0 c).before (2 : Fin 3) t₀ d)))

set_option maxRecDepth 4000 in
/-- The library's body obligation, at every device whose table spells `σ`. -/
theorem body_obligation (hT : ∀ c, stagedTable m c = table σ) (c : Dev nD) :
    BodyObligation (dats (F := F) m ρ σ 0 c) (defs₀ (F := F)) 𝒱₀ () Set.univ := fun t => by
  rw [fin_N t]
  rw [bigSep_W0, bigSep_W0]
  simp only [owns_whole_eq]
  show bodyPre' m ρ σ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7) (fun _ => bodyPost m ρ σ c)
  unfold bodyPre' Φ₀ start
  iintro ⟨⟨⟨⟨%K, Hg⟩, Hc, Hl⟩, Hscr⟩, Ho, Hx, Ht, Hout⟩
  iapply (sound_body m ρ σ K c (hT c) fun _ => bodyPost m ρ σ c)
  unfold bodyPre
  isplitr []
  · isplitl [Hg Hc Hl Hscr]
    · isplitl [Hg]; · iexact Hg
      isplitl [Hc]; · iexact Hc
      isplitl [Hl]; · iexact Hl
      iexact Hscr
    isplitl [Ho]; · iexact Ho
    isplitl [Hx]; · iexact Hx
    isplitl [Ht] <;> iassumption
  · iintro H; iexact H

/-! ## The cells and their duties -/

/-- The semaphores of the copies, which the kernel allocates; the barrier semaphore it does not. -/
abbrev osem : Fin 6 → SemLoc sig := fun k => csem k.succ

/-- They are the kernel's own. -/
theorem ownSemFacts : Pipeline.OwnSemFacts cfg0.spec osem := by decide

/-- A device's cell by its number; -/
abbrev cellAt (ck : Dev nD × Fin 7) : GSem nD τ sig := cell ck.1 ck.2
/-- no two are the same. -/
theorem cellAt_injective : Function.Injective cellAt := by
  rintro ⟨c, k⟩ ⟨c', k'⟩ h
  have h1 : c = c' := congrArg (fun g : GSem nD τ sig => g.1.1) h
  have h2 : k = k' := csem_injective (congrArg Prod.snd h)
  rw [h1, h2]
/-- All cells of the mesh. -/
def allCells : Finset (GSem nD τ sig) := Finset.univ.map ⟨cellAt, cellAt_injective⟩
/-- The one duty of a cell; -/
abbrev tokAt (ck : Dev nD × Fin 7) : GSem nD τ sig × ℕ × Unit := (cellAt ck, 0, ())
/-- no two are the same. -/
theorem tokAt_injective : Function.Injective tokAt := fun _ _ h => cellAt_injective (congrArg Prod.fst h)
/-- All duties of the mesh. -/
def allToks : Finset (GSem nD τ sig × ℕ × Unit) := Finset.univ.map ⟨tokAt, tokAt_injective⟩

/-- The ghost state at launch: the pipeline's, and the exchange's. -/
def u₀ : UU := (initOf (Pipeline.cells cfgs cellOf_inj) (Pipeline.launchToks cfgs cellOf_inj), initOf allCells allToks)

/-- The duty tokens of device `c`'s own cells. -/
def toks (c : Dev nD) : sProp 𝕄 := bigSep Finset.univ fun k : Fin 7 => dutyTok ER (cell c k) 0 ()

/-- What the launch deals device `c`, -/
def G (c : Dev nD) : sProp 𝕄 :=
  iprop((bigSep Finset.univ fun k : Fin 7 => roundState ER (Rd m σ) (cell c k) 0)
    ∗ (bigSep Finset.univ fun k : Fin 7 => iprop(atPos ER (cell c k) 0 ∅ 0 ∗ reached ER (cell c k) 0)) ∗ toks c)
/-- and what the device starts from. -/
def G' (c : Dev nD) : sProp 𝕄 := iprop(∃ K, ghost m σ K c)

/-- The exchange's ghost state deals every device its share. -/
theorem fund_cells : BI.own (ER (initOf allCells allToks)) ⊢ (|==> bigSep Finset.univ (G m σ) : sProp 𝕄) := by
  have hX (Φ : GSem nD τ sig → sProp 𝕄) : bigSep allCells Φ = bigSep Finset.univ fun c : Dev nD => bigSep Finset.univ fun k : Fin 7 => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m σ) allCells allToks) $$ HX with ⟨Hst, Hr, Hat, Htok⟩
  imodintro
  ihave Hst' := (Entails.of_eq (hX fun g => roundState ER (Rd m σ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The copies' six counters at zero, written out, -/
theorem ownSems0_eq (c : Dev nD) : (Pipeline.ownSems0 (Ix := Unit) (Name := ℕ) (U := UU) (Lvl := ℕ) (Val := Elt F) (τ := τ) osem c : sProp 𝕄)
    = iprop(semVal (cell c 1) 0 ∗ semVal (cell c 2) 0 ∗ semVal (cell c 3) 0 ∗ semVal (cell c 4) 0 ∗ semVal (cell c 5) 0 ∗ semVal (cell c 6) 0) := by
  rw [Pipeline.ownSems0_eq_of_list c osem [0, 1, 2, 3, 4, 5] (by decide) (by decide)]; rfl
/-- and the barrier's. -/
theorem unscopedSems0_eq (c : Dev nD) : (unscopedSems0 c : sProp 𝕄) = semVal (cell c 0) 0 := by
  unfold unscopedSems0; rw [bigSep_eq_bigSepL_of_eq [SemLoc.reg barS] (by decide) (by decide)]; rfl
/-- The barrier cell and the six of the copies are the device's counters. -/
theorem sems0_eq (c : Dev nD) : (bigSep Finset.univ fun k : Fin 7 => semVal (cell c k) 0 : sProp 𝕄)
    = iprop(unscopedSems0 c ∗ Pipeline.ownSems0 (Ix := Unit) (Name := ℕ) (U := UU) (Lvl := ℕ) (Val := Elt F) (τ := τ) osem c) := by
  rw [ownSems0_eq, unscopedSems0_eq, bigSep_fin7]

/-- A device's counters at zero become the invariants of its cells. -/
theorem core_alloc (c : Dev nD) :
    iprop(Pipeline.ownSems0 (Ix := Unit) (Name := ℕ) (U := UU) (Lvl := ℕ) (Val := Elt F) (τ := τ) osem c ∗ unscopedSems0 c ∗ G m σ c)
      ⊢ |={Set.univ}=> iprop((bigSep Finset.univ fun k => iprop(∃ κ : ℕ, cellInv ER (Rd m σ) κ (cell c k)))
          ∗ (bigSep Finset.univ fun k => iprop(atPos ER (cell c k) 0 ∅ 0 ∗ reached ER (cell c k) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 7 => semVal (cell c k) 0) ∗ bigSep Finset.univ fun k : Fin 7 => roundState ER (Rd m σ) (cell c k) 0)
      ⊢ (|={Set.univ}=> bigSep Finset.univ fun k => iprop(∃ κ : ℕ, cellInv ER (Rd m σ) κ (cell c k)) : sProp 𝕄) from by
        rw [← bigSep_sep']
        exact (bigSep_mono fun k _ => (Rounds.body_intro ER (Rd m σ) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt along the route: a barrier cell's to the device that is sent to, a receiving cell's to the device
    that sends. -/
theorem toks_around : (bigSep Finset.univ fun c : Dev nD => (toks c : sProp 𝕄)) ⊢ bigSep Finset.univ fun c : Dev nD => payToks σ c := by
  unfold toks payToks
  simp only [bigSep_fin7]
  rw [bigSep_sep', bigSep_sep', bigSep_sep', bigSep_sep', bigSep_sep', bigSep_sep',
    bigSep_sep', bigSep_sep', bigSep_sep', bigSep_sep', bigSep_sep', bigSep_sep',
    bigSep_univ_equiv (ring σ).symm (fun c : Dev nD => (dutyTok ER (cell c 0) 0 () : sProp 𝕄)),
    bigSep_univ_equiv (ring σ) (fun c : Dev nD => (dutyTok ER (cell c 2) 0 () : sProp 𝕄)),
    bigSep_univ_equiv (ring σ) (fun c : Dev nD => (dutyTok ER (cell c 4) 0 () : sProp 𝕄)),
    bigSep_univ_equiv (ring σ) (fun c : Dev nD => (dutyTok ER (cell c 6) 0 () : sProp 𝕄))]
  exact Entails.rfl

/-- What holds for each with a persistent fact beside it holds for all with that fact once. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Records and a device's own share are what it starts from. -/
theorem ghost_intro (K : Dev nD × Fin 7 → ℕ) (c : Dev nD) : iprop(records m σ K ∗ linear σ c) ⊢ G' m σ c := by
  unfold G' ghost
  iintro H
  iexists K
  iexact H

/-- The devices' shares, the duty tokens moved to the devices that pay them. -/
theorem regroup :
    (bigSep Finset.univ fun c : Dev nD => iprop((bigSep Finset.univ fun k => iprop(∃ κ : ℕ, cellInv ER (Rd m σ) κ (cell c k)))
          ∗ (bigSep Finset.univ fun k => iprop(atPos ER (cell c k) 0 ∅ 0 ∗ reached ER (cell c k) 0)) ∗ toks c) : sProp 𝕄)
      ⊢ bigSep Finset.univ (G' m σ) := by
  rw [bigSep_sep', bigSep_sep', ← bigSep_univ_prod (fun ck : Dev nD × Fin 7 => iprop(∃ κ : ℕ, cellInv ER (Rd m σ) κ (cell ck.1 ck.2))),
    bigSep_congr (s := Finset.univ) (fun (c : Dev nD) _ => bigSep_sep' Finset.univ (fun k : Fin 7 => (atPos ER (cell c k) 0 ∅ 0 : sProp 𝕄)) (fun k => reached ER (cell c k) 0)),
    bigSep_sep', ← bigSep_univ_prod (fun ck : Dev nD × Fin 7 => (reached ER (cell ck.1 ck.2) 0 : sProp 𝕄))]
  iintro ⟨HI, ⟨Hat, #HR⟩, Htok⟩
  ihave HK := (BI.bigSep_exists_pi Finset.univ (fun (ck : Dev nD × Fin 7) (κ : ℕ) => (cellInv ER (Rd m σ) κ (cell ck.1 ck.2) : sProp 𝕄))) $$ HI
  icases HK with ⟨%K, #HI⟩
  ihave Htk := (toks_around (F := F) σ) $$ Htok
  iapply (bigSep_with_persistent (R := records m σ K) fun c _ => ghost_intro m σ K c)
  isplitr
  · unfold records; isplitl; · iexact HI
    iexact HR
  · iapply (Entails.of_eq (bigSep_sep' Finset.univ (fun c : Dev nD => bigSep Finset.univ fun k : Fin 7 => (atPos ER (cell c k) 0 ∅ 0 : sProp 𝕄)) (payToks σ)).symm)
    isplitl [Hat]; · iexact Hat
    iexact Htk

/-- The cells of every device allocated and dealt at once. -/
theorem glob : (bigSep Finset.univ fun c => iprop(Pipeline.ownSems0 (Ix := Unit) (Name := ℕ) (U := UU) (Lvl := ℕ) (Val := Elt F) (τ := τ) osem c ∗ unscopedSems0 c ∗ G m σ c) : sProp 𝕄)
    ⊢ |={Set.univ}=> bigSep Finset.univ (G' m σ) :=
  ((bigSep_mono fun c _ => core_alloc m σ c).trans (bigSep_fupd _ _)).trans (BI.fupd_mono (regroup m σ))

/-! ## The credit at launch -/

/-- The credit that the launch gives device `c` is that of the cells others pay. -/
theorem launch_creds (c : Dev nD) : (Pipeline.launchCred (O₀ σ) c : sProp 𝕄) ⊢ creds (F := F) c := by
  have e₀ := Pipeline.launchCred_add (Val := Elt F) (Name := ℕ) (U := UU) (Lvl := ℕ) (O₁ σ) (fun d => tallyAt (cell (src σ d) 0) () 1) c
  have e₁ := Pipeline.launchCred_add (Val := Elt F) (Name := ℕ) (U := UU) (Lvl := ℕ) (O₂ σ) (fun d => tallyAt (cell (dst σ d) 2) () NS) c
  have e₂ := Pipeline.launchCred_add (Val := Elt F) (Name := ℕ) (U := UU) (Lvl := ℕ) (O₃ σ) (fun d => tallyAt (cell (dst σ d) 4) () NQ) c
  have h0 := Pipeline.launchCred_tallyAt (Val := Elt F) (Name := ℕ) (U := UU) (Lvl := ℕ) (τ := τ) (csem 0) (src σ) (dst σ) (src_dst σ) (dst_src σ) () 1 c
  have h2 := Pipeline.launchCred_tallyAt (Val := Elt F) (Name := ℕ) (U := UU) (Lvl := ℕ) (τ := τ) (csem 2) (dst σ) (src σ) (dst_src σ) (src_dst σ) () NS c
  have h4 := Pipeline.launchCred_tallyAt (Val := Elt F) (Name := ℕ) (U := UU) (Lvl := ℕ) (τ := τ) (csem 4) (dst σ) (src σ) (dst_src σ) (src_dst σ) () NQ c
  have h6 := Pipeline.launchCred_tallyAt (Val := Elt F) (Name := ℕ) (U := UU) (Lvl := ℕ) (τ := τ) (csem 6) (dst σ) (src σ) (dst_src σ) (src_dst σ) () NQ c
  show (Pipeline.launchCred (fun d => O₁ σ d + tallyAt (cell (src σ d) 0) () 1) c : sProp 𝕄) ⊢ _
  rw [e₀]
  show iprop(Pipeline.launchCred (fun d => O₂ σ d + tallyAt (cell (dst σ d) 2) () NS) c ∗ _) ⊢ _
  rw [e₁]
  show iprop((Pipeline.launchCred (fun d => O₃ σ d + tallyAt (cell (dst σ d) 4) () NQ) c ∗ _) ∗ _) ⊢ _
  rw [e₂]
  unfold creds
  iintro ⟨⟨⟨H6, H4⟩, H2⟩, H0⟩
  isplitl [H0]; · iapply h0; iexact H0
  isplitl [H2]; · iapply h2; iexact H2
  isplitl [H4]; · iapply h4; iexact H4
  iapply h6; iexact H6

/-! ## The side conditions of the run -/

/-- What the launch hands a device gives its start, -/
theorem start_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ G' m σ c)
      ⊢ |={Set.univ}=> iprop(start m σ c ∗ emp) := by
  iintro ⟨-, Hlev, Hcr, -, HG⟩
  ihave Hc := (launch_creds (F := F) σ c) $$ Hcr
  imodintro
  unfold start G'
  isplitl
  · isplitl [HG]; · iexact HG
    isplitl [Hc] <;> iassumption
  · iempintro

/-- which with the scratch buffers is what holds before the body; -/
theorem phi0_intro (c : Dev nD) :
    iprop(start m σ c ∗ Pipeline.prefHeld Pipeline.Prefetch.none c (fun _ => fullShare.right) (fun k => k.elim0) ∗ Pipeline.scopedRest cfg0.spec c)
      ⊢ (dats m ρ σ 0 c).Φ 0 := by
  rw [show (dats m ρ σ 0 c).Φ 0 = Φ₀ m σ c from rfl, scopedRest0_eq]
  unfold Φ₀ scratch
  iintro ⟨Hs, -, Hr⟩
  isplitl [Hs] <;> iassumption

/-- and what holds after the body gives the counters and the buffers back. -/
theorem phi1_exit (c : Dev nD) :
    (dats m ρ σ 0 c).Φ (Fin.last cfg0.N) ⊢ iprop(unscopedSems0 c ∗ Pipeline.ownSems0 osem c ∗ Pipeline.scopedRest cfg0.spec c) := by
  rw [show (dats m ρ σ 0 c).Φ (Fin.last cfg0.N) = Φ₁ (F := F) c from rfl, scopedRest0_eq]
  unfold Φ₁ scratch
  rw [sems0_eq]
  iintro ⟨⟨Hu, Ho⟩, Hr⟩
  isplitl [Hu]; · iexact Hu
  isplitl [Ho] <;> iassumption

/-- The waits on staging copies are allowed. -/
theorem waits (c : Dev nD) : (levAts L lv : sProp 𝕄) ⊢ Pipeline.cellsWaits cfgs (dats m ρ σ) () 0 c :=
  Pipeline.cellsWaits_intro cfgs (dats m ρ σ) () 0 c fun w s t =>
    mayWait_stage σ c _ (by fin_cases w <;> fin_cases s <;> decide) _ (by
      rcases t with ⟨_ | _, ht⟩
      · exact Or.inl rfl
      · exact Or.inr rfl)

/-! ## The run -/

/-- Window `w`'s array on device `c` after the run. -/
def finalA (c : Dev nD) (w : Fin cfg0.W) : Buf (Elt F) ((cfg0.win w).arr.view.loc (c : Thread nD τ)) := (dats m ρ σ 0 c).arrAt w cfg0.N

set_option maxRecDepth 8000 in
/-- On the mesh, for any float values, from any memory in which every device's table spells `σ`: every weakly fair
    execution of @main terminates, and every final state has each device's arrays at the computed contents and every
    semaphore counter at zero. -/
theorem run_main (hT : ∀ c, stagedTable m c = table σ) : θ_run defs (onTc (τ := τ) (main (F := F))) (s₀ m ρ)
    (fun r => (∀ c : Dev nD, ∀ w : Fin cfg0.W, r.2.mem ((cfg0.win w).arr.view.loc (c : Thread nD τ)) = finalA m ρ σ c w) ∧ r.2.sem = fun _ => 0) :=
  Pipeline.θ_run_region_owing_glob_pf (fun p => (cfgs p).toPCfg) (fun p => (cfgs p).toPCfg_adm) (dats m ρ σ) () cellOf_inj (0 : Fin 1)
    winFacts0.to₀ ownSemFacts (Pipeline.PreFacts.none _) EP defs₀ 𝒱₀ m ρ main
    (hmain := fun _ => rfl)
    (hbody := body_obligation m ρ σ hT) (hne := fun w => by fin_cases w <;> exact Nat.succ_pos _) (harr := arr_whole0) (hstage := stage_whole0)
    (hshare := fun c => Dat.share_full (dats m ρ σ 0 c) fun _ => rfl)
    (hdistinct := winFacts0.arr_inj)
    (O₀ := O₀ σ) (howed₀ := fun _ => rfl) (howedN := fun _ => rfl)
    (L := L) (lv := lv) (hL := L_of_ne) (hwaits := waits m ρ σ)
    (G := G m σ) (G' := G' m σ) (u₀ := u₀)
    (hu₀ := by
      unfold u₀
      iintro Hu
      ihave H := (ownU_pair _ _) $$ Hu
      icases H with ⟨HP, HX⟩
      imod (fund_cells m σ) $$ HX with HG
      imodintro
      isplitl [HP] <;> iassumption)
    (hglob := glob m σ)
    (hA := fun _ _ => rfl) (hpf := fun _ k => k.elim0)
    (X := start m σ) (Y := fun c => unscopedSems0 c) (Z := fun _ => iprop(emp))
    (hX := start_intro m ρ σ) (hin := phi0_intro m ρ σ) (hout := phi1_exit m ρ σ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input arrays hold what they held, -/
theorem finalA_x (c : Dev nD) : finalA m ρ σ c (0 : Fin 3) = m ((c : Thread nD τ).loc main_arg0) := (dats (F := F) m ρ σ 0 c).arrAt_in (0 : Fin 3) rfl _
/-- the block and the table alike. -/
theorem finalA_table (c : Dev nD) : finalA m ρ σ c (1 : Fin 3) = m ((c : Thread nD τ).loc main_arg1) := (dats (F := F) m ρ σ 0 c).arrAt_in (1 : Fin 3) rfl _

end Cert.Permute

end
-- ==== Proof.Arrays.lean ====
/-
The arrays of a run: a device's block and table are its arrays as they are, and its result array ends at the decoded
block of the device it receives from.
-/
module

public import proofs.«01_k».proof.Proof.Run
public import Idealize.ShloMosaic.Lib.Pipeline.ValueKit

@[expose] public section

noncomputable section

namespace Cert.Permute

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg) (σ : Route)

/-- The block that the body works on is the device's argument as it is, -/
theorem block_eq (c : Dev nD) : block m c = m ((c : Thread nD τ).loc main_arg0) := by
  funext i
  unfold block
  rw [View.read_apply]
  show m ((c : Thread nD τ).loc main_arg0) ((win0_0.blk (0 : Fin 1)).view.emb i) = _
  congr 1; funext a; apply Fin.ext
  exact win0_0.rect_emb_val_of_index_zero (0 : Fin 1) a (by fin_cases a <;> rfl) i

/-- and so is the table. -/
theorem stagedTable_eq (c : Dev nD) : stagedTable m c = m ((c : Thread nD τ).loc main_arg1) := by
  funext i
  unfold stagedTable
  rw [View.read_apply]
  show m ((c : Thread nD τ).loc main_arg1) ((win0_1.blk (0 : Fin 1)).view.emb i) = _
  congr 1; funext a; apply Fin.ext
  exact win0_1.rect_emb_val_of_index_zero (0 : Fin 1) a (by fin_cases a <;> rfl) i

/-- The result array ends at the decoded block of the device it receives from. -/
theorem finalA_out (c : Dev nD) : finalA m ρ σ c (2 : Fin 3) = decoded (m ((src σ c : Thread nD τ).loc main_arg0)) := by
  unfold finalA
  refine Pipeline.Dat.arrAt_eq_of_after_last (dats m ρ σ 0 c) (2 : Fin 3) t₀ (by decide +kernel) _ (fun j => ?_)
  rw [← block_eq m (src σ c)]
  rfl

/-- The run from any memory in which every device's table array spells `σ`: each device's result array ends at the decoded block of the device it
    receives from, its inputs as they were, every counter at zero. -/
theorem run_arrays (hT : ∀ c : Dev nD, m ((c : Thread nD τ).loc main_arg1) = table σ) : θ_run defs (onTc (τ := τ) (main (F := F))) ⟨m, fun _ => 0, ρ⟩
    (fun r => (∀ c : Dev nD, r.2.mem ((c : Thread nD τ).loc main_v1) = decoded (m ((src σ c : Thread nD τ).loc main_arg0))
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun _ h => ⟨fun c => ⟨(h.1 c 2).trans (finalA_out m ρ σ c), (h.1 c 0).trans (finalA_x m ρ σ c), (h.1 c 1).trans (finalA_table m ρ σ c)⟩, h.2⟩)
    (run_main m ρ σ fun c => (stagedTable_eq m c).trans (hT c))

end Cert.Permute

end
-- ==== Proof.Frames.lean ====
/-
The frames, for any one permutation. A precondition compares the table array with four literal words; where the words
spell a permutation, the table array is that permutation's table. The kernel and its idealized form have the same text, so
one run, over any float values, gives the frame of both.
-/
module

public import proofs.«01_k».proof.Defs
public import proofs.«01_k».proof.Proof.Arrays
public import proofs.«01_k».proof.Proof.Gen.Kernel
public import proofs.«01_k».proof.Proof.Gen.ReferenceIdeal.Run

@[expose] public section

noncomputable section

namespace Cert.Permute

open Cert.KernelIdeal Cert.KernelIdeal.Gen

open Idealize.ShloMosaic
open Idealize.ShloMosaic.TcCoe
open Idealize.SL.Sem

/-! ## From the literal words to a permutation -/

/-- Four words are the positions in some order: each below four, no two alike. -/
def Spells (w : Fin 4 → BitVec 32) : Prop := (∀ z, (w z).toNat < 4) ∧ ∀ z z', w z = w z' → z = z'

instance (w : Fin 4 → BitVec 32) : Decidable (Spells w) := by unfold Spells; infer_instance

set_option backward.proofsInPublic true in
/-- The permutation they spell. -/
def routeOf (w : Fin 4 → BitVec 32) (h : Spells w) : Route :=
  Equiv.ofBijective (fun z => (⟨(w z).toNat, h.1 z⟩ : Fin 4)) (Finite.injective_iff_bijective.mp fun z z' e => h.2 z z' (BitVec.eq_of_toNat_eq (Fin.mk.inj e)))

/-- The permutation's words are the words it was read from. -/
theorem word_routeOf (w : Fin 4 → BitVec 32) (h : Spells w) (z : Fin 4) : word (routeOf w h z) = w z := by
  apply BitVec.eq_of_toNat_eq
  have hz := h.1 z
  show (BitVec.ofNat 32 (w z).toNat).toNat = _
  rw [BitVec.toNat_ofNat]; omega

/-- A vector of four has its elements in order. -/
theorem rowMajor_S4 (i : S4.Idx) : S4.rowMajor i = (i 0 : Fin 4) := by
  apply Fin.ext; revert i; decide +kernel

/-- A table array that compares equal with the words is the permutation's table. -/
theorem eq_table (w : Fin 4 → BitVec 32) (h : Spells w) (t : IVec S4 32) (ht : cmpi .eq t (fun i => w (S4.rowMajor i)) = fun _ => 1#1) :
    t = table (routeOf w h) := by
  funext i
  have hi := congrFun ht i
  have e : t i = w (S4.rowMajor i) := by
    by_contra hne
    rw [show cmpi .eq t (fun i => w (S4.rowMajor i)) i = BitVec.ofBool (t i == w (S4.rowMajor i)) from rfl, beq_eq_false_iff_ne.mpr hne] at hi
    exact absurd hi (by decide)
  rw [e, rowMajor_S4]
  exact (word_routeOf w h _).symm

/-! ## One text, two programs -/

section OneText
variable {F : FTy → Type} [FloatOps F]

/-- The kernel's body table is the idealized kernel's, -/
theorem bodies_eq : Cert.Kernel.defs₀ (F := F) = Cert.KernelIdeal.defs₀ (F := F) := by
  refine congrArg Defs.onTc (funext fun ℓ => funext fun a => ?_)
  obtain ⟨_ | n, hn⟩ := ℓ
  · obtain ⟨t, s⟩ := a
    rfl
  · exact absurd hn (Nat.not_lt.2 (Nat.le_add_left _ _))

/-- and so is the table with the call's pipeline. -/
theorem tables_eq : Cert.Kernel.defs (F := F) = Cert.KernelIdeal.defs (F := F) :=
  congrArg (Pipeline.defs Cert.KernelIdeal.pcfgs) bodies_eq

end OneText

/-! ## The frames -/

/-- The idealized kernel's frame where every device's table spells a permutation, -/
theorem frame_kernelIdeal (w : Fin 4 → BitVec 32) (h : Spells w)
    (m : (ℓ : Loc Cert.KernelIdeal.nD Cert.KernelIdeal.τ Cert.KernelIdeal.sig) → Buf (Elt Ideal) ℓ) (g : Dev Cert.KernelIdeal.nD → PrngReg)
    (ht : ∀ c : Dev Cert.KernelIdeal.nD, cmpi .eq (m ((c.tc : Thread Cert.KernelIdeal.nD Cert.KernelIdeal.τ).loc Cert.KernelIdeal.main_arg1)) (fun i => w (S4.rowMajor i)) = fun _ => 1#1) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (run_arrays m g (routeOf w h) fun c => eq_table w h _ (ht c))

/-- the kernel's, which is the same run over machine words, -/
theorem frame_kernel (w : Fin 4 → BitVec 32) (h : Spells w)
    (m : (ℓ : Loc Cert.Kernel.nD Cert.Kernel.τ Cert.Kernel.sig) → Buf (Elt Bits) ℓ) (g : Dev Cert.Kernel.nD → PrngReg)
    (ht : ∀ c : Dev Cert.Kernel.nD, cmpi .eq (m ((c.tc : Thread Cert.Kernel.nD Cert.Kernel.τ).loc Cert.Kernel.main_arg1)) (fun i => w (S4.rowMajor i)) = fun _ => 1#1) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  (congrArg (fun D => θ_run D (onTc (τ := Cert.KernelIdeal.τ) (Cert.KernelIdeal.main (F := Bits))) ⟨m, fun _ => 0, g⟩ _) tables_eq).mpr
    ((θ_run Cert.KernelIdeal.defs _ _).mono (fun _ h => ⟨fun c => (h.1 c).2, h.2⟩) (run_arrays (F := Bits) m g (routeOf w h) fun c => eq_table w h _ (ht c)))

/-- and the reference's, from any memory. -/
theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

end Cert.Permute

end
-- ==== Proof.Numbers.lean ====
/-
One value, quantised and read back, over the extended reals. The kernel multiplies by 127 / m and converts to a byte at
once; the reference divides by m / 127, converts to a word and narrows it. With m positive and no smaller than the value's
magnitude the two give the same number, infinities included: the quotients are equal, and the rounded quotient lies
between −127 and 127, where a byte loses nothing.
-/
module

public import Idealize.ShloMosaic.PureOps
public import Idealize.ShloMosaic.PureOps.Ideal

@[expose] public section

noncomputable section

namespace Cert.Permute

open Idealize.ShloMosaic

/-- The constant 127, as both programs spell it, -/
theorem ofBits_127 : Ideal.ofBits .f32 0x42FE0000#32 = ((127 : ℝ) : EReal) := by
  simp [Ideal.ofBits, Ideal.ieee, -EReal.coe_mul]; norm_num

/-- and the least scale's constant, a positive number. -/
theorem ofBits_floor_pos : (0 : EReal) < Ideal.ofBits .f32 0x0DA24260#32 := by
  simp [Ideal.ofBits, Ideal.ieee, -EReal.coe_mul]

/-- The kernel's byte as a number, for a value `x` and a column's maximum `m`, -/
def byteK (x m : EReal) : BitVec 8 := Ideal.fptosi 8 (Ideal.liftRound Ideal.roundHalfEven (x * Ideal.div (Ideal.ofBits .f32 0x42FE0000#32) m))
/-- and the reference's word. -/
def wordR (x m : EReal) : BitVec 32 := Ideal.fptosi 32 (Ideal.liftRound Ideal.roundHalfEven (Ideal.div x (Ideal.div m (Ideal.ofBits .f32 0x42FE0000#32))))

/-- The two quotients are one number. -/
theorem quotient_eq (x m : EReal) (hm : 0 < m) :
    Ideal.div x (Ideal.div m (Ideal.ofBits .f32 0x42FE0000#32)) = x * Ideal.div (Ideal.ofBits .f32 0x42FE0000#32) m := by
  rw [ofBits_127]
  have h127 : ((127 : ℝ) : EReal) ≠ 0 := by exact_mod_cast (by norm_num : (127 : ℝ) ≠ 0)
  have hs : m * ((127 : ℝ) : EReal)⁻¹ ≠ 0 := by
    refine ne_of_gt (EReal.mul_pos hm ?_)
    rw [← EReal.coe_inv]; exact_mod_cast (by norm_num : (0 : ℝ) < 127⁻¹)
  unfold Ideal.div
  rw [if_neg h127, if_neg hs, if_neg hm.ne', EReal.mul_inv, EReal.inv_inv (by simp) (by simp), mul_comm m⁻¹]

/-- The quotient is a real number of magnitude at most 127. -/
theorem quotient_bound (x m : EReal) (hm : 0 < m) (hx : max x (-x) ≤ m) :
    ∃ v : ℝ, -127 ≤ v ∧ v ≤ 127 ∧ x * Ideal.div (Ideal.ofBits .f32 0x42FE0000#32) m = (v : EReal) := by
  rw [ofBits_127]
  unfold Ideal.div
  rw [if_neg hm.ne']
  induction m using EReal.rec with
  | bot => exact absurd hm (by simp)
  | top => exact ⟨0, by norm_num, by norm_num, by simp⟩
  | coe r =>
    have hr : 0 < r := by exact_mod_cast hm
    have h1 : x ≤ (r : EReal) := (le_max_left _ _).trans hx
    have h2 : -x ≤ (r : EReal) := (le_max_right _ _).trans hx
    induction x using EReal.rec with
    | bot => simp at h2
    | top => simp at h1
    | coe v =>
      have h1' : v ≤ r := by exact_mod_cast h1
      have h2' : -v ≤ r := by exact_mod_cast h2
      refine ⟨v * (127 * r⁻¹), ?_, ?_, ?_⟩
      · have : -r * (127 * r⁻¹) ≤ v * (127 * r⁻¹) := mul_le_mul_of_nonneg_right (by linarith) (by positivity)
        have e : -r * (127 * r⁻¹) = -127 := by field_simp
        linarith
      · have : v * (127 * r⁻¹) ≤ r * (127 * r⁻¹) := mul_le_mul_of_nonneg_right h1' (by positivity)
        have e : r * (127 * r⁻¹) = 127 := by field_simp
        linarith
      · rw [← EReal.coe_inv, ← EReal.coe_mul, ← EReal.coe_mul]

/-- Rounding keeps within 127. -/
theorem round_bound (v : ℝ) (h1 : -127 ≤ v) (h2 : v ≤ 127) : -127 ≤ Ideal.roundHalfEven v ∧ Ideal.roundHalfEven v ≤ 127 := by
  have f1 : (-127 : ℤ) ≤ ⌊v⌋ := Int.le_floor.mpr (by push_cast; exact h1)
  have f2 : ⌊v⌋ ≤ 127 := Int.floor_le_iff.mpr (by push_cast; linarith)
  have key : 1 / 2 ≤ v - ⌊v⌋ → ⌊v⌋ + 1 ≤ 127 := fun h => by
    have : (⌊v⌋ : ℝ) < 127 := by linarith
    have : ⌊v⌋ < 127 := by exact_mod_cast this
    omega
  unfold Ideal.roundHalfEven
  dsimp only
  split_ifs with a b c
  · exact ⟨f1, f2⟩
  · exact ⟨by omega, key b.le⟩
  · exact ⟨f1, f2⟩
  · exact ⟨by omega, key (not_lt.mp a)⟩

/-- An integer within 127 converts to the word that spells it, at 8 bits -/
theorem fptosi8_int (n : ℤ) (h1 : -127 ≤ n) (h2 : n ≤ 127) : Ideal.fptosi 8 ((n : ℝ) : EReal) = BitVec.ofInt 8 n := by
  rw [Ideal.fptosi, Ideal.toIntClamped_coe]
  simp only [Int.floor_intCast, Int.ceil_intCast, ite_self]
  congr 1
  norm_num
  omega
/-- and at 32. -/
theorem fptosi32_int (n : ℤ) (h1 : -127 ≤ n) (h2 : n ≤ 127) : Ideal.fptosi 32 ((n : ℝ) : EReal) = BitVec.ofInt 32 n := by
  rw [Ideal.fptosi, Ideal.toIntClamped_coe]
  simp only [Int.floor_intCast, Int.ceil_intCast, ite_self]
  congr 1
  norm_num
  omega

/-- The reference's word, narrowed to a byte and widened again, is the same number as the kernel's byte. -/
theorem narrowed_eq (x m : EReal) (hm : 0 < m) (hx : max x (-x) ≤ m) :
    (((wordR x m).setWidth 8).signExtend 32).toInt = (byteK x m).toInt := by
  obtain ⟨v, h1, h2, e⟩ := quotient_bound x m hm hx
  obtain ⟨n1, n2⟩ := round_bound v h1 h2
  unfold wordR byteK
  rw [quotient_eq x m hm, e, show Ideal.liftRound Ideal.roundHalfEven (v : EReal) = ((Ideal.roundHalfEven v : ℝ) : EReal) from rfl,
    fptosi8_int _ n1 n2, fptosi32_int _ n1 n2, BitVec.toInt_signExtend_of_le (by omega)]
  congr 1
  apply BitVec.eq_of_toInt_eq
  rw [BitVec.toInt_setWidth, BitVec.toNat_ofInt, BitVec.toInt_ofInt]
  rw [Int.bmod_def, Int.bmod_def]
  norm_num
  omega

end Cert.Permute

end
-- ==== Proof.Sorted.lean ====
/-
The reference's routing. The argsort of a permutation's table lists the inverse permutation, and the gather by it takes
plane `z` of the result from plane `σ⁻¹ z` of its operand.
-/
module

public import proofs.«01_k».proof.Proof.Route
public import proofs.«01_k».proof.Proof.Gen.ReferenceIdeal
public import Idealize.ShloMosaic.Lib.SortNet.HostSort
public import Idealize.ShloMosaic.Lib.SortFacts
public import Idealize.ShloMosaic.Lib.Pointwise

@[expose] public section

noncomputable section

namespace Cert.Permute

open Cert.ReferenceIdeal Cert.ReferenceIdeal.Gen

open Idealize.ShloMosaic

variable (σ : Route)

/-- Words of positions compare as the positions do. -/
theorem word_slt (a b : Fin 4) : (IntOp.cmpi .slt (word a) (word b) == 1#1) = decide (a.val < b.val) := by
  revert a b; decide +kernel

/-- The positions in the order in which the table's words ascend. -/
def ascending : List (Fin 4) := (List.finRange 4).map σ.symm

/-- They are the four positions in some order, -/
theorem ascending_perm : (ascending σ).Perm (List.finRange 4) := by
  refine (List.perm_ext_iff_of_nodup ((List.nodup_finRange 4).map σ.symm.injective) (List.nodup_finRange 4)).mpr fun z => ?_
  simp only [ascending, List.mem_map, List.mem_finRange, true_and, iff_true]
  exact ⟨σ z, σ.symm_apply_apply z⟩

/-- in which the table's words ascend. -/
theorem ascending_sorted : (ascending σ).Pairwise fun a b => (σ a).val < (σ b).val := by
  unfold ascending
  rw [List.pairwise_map]
  simp only [Equiv.apply_symm_apply]
  exact List.pairwise_lt_finRange 4

/-- The sort of the table with the positions beside it lists, at place `z`, the position whose word is `z`. -/
theorem argsort_apply (z : Fin 4) :
    (Host.sort2 S4 0 comparator_i32_i32_d0 (table σ) (iotaInDim S4 32 0)).2 (Shape.Idx.ofFin z) = word (σ.symm z) := by
  unfold Host.sort2
  rw [dif_pos (show 0 < S4.rank by decide)]
  have hb : (fun k k' : Fin 4 => comparator_i32_i32_d0
        (table σ ((Shape.Idx.ofFin z : S4.Idx).along (0 : Fin 1) k), iotaInDim S4 32 0 ((Shape.Idx.ofFin z : S4.Idx).along (0 : Fin 1) k))
        (table σ ((Shape.Idx.ofFin z : S4.Idx).along (0 : Fin 1) k'), iotaInDim S4 32 0 ((Shape.Idx.ofFin z : S4.Idx).along (0 : Fin 1) k')) == 1#1)
      = fun k k' => decide ((σ k).val < (σ k').val) := by
    funext k k'
    rw [Shape.Idx.along_rank1, Shape.Idx.along_rank1]
    exact word_slt (σ k) (σ k')
  have hs : sortedFrom (fun k k' : Fin 4 => decide ((σ k).val < (σ k').val)) z = σ.symm z := by
    rw [SortNet.sortedFrom_eq_getElem_of_pairwise_lt (fun k => (σ k).val) (ascending σ) (ascending_perm σ) (ascending_sorted σ) z
      (by simp [ascending])]
    simp [ascending]
    rfl
  refine (congrArg (fun f : Fin 4 → Fin 4 → Bool => iotaInDim S4 32 0 ((Shape.Idx.ofFin z : S4.Idx).along (0 : Fin 1) (sortedFrom f z))) hb).trans ?_
  refine (congrArg (fun a : Fin 4 => iotaInDim S4 32 0 ((Shape.Idx.ofFin z : S4.Idx).along (0 : Fin 1) a)) hs).trans ?_
  rw [Shape.Idx.along_rank1]
  rfl

/-- The index column the gather reads: the argsort, its negative entries wrapped (there is none). -/
theorem column_apply (z : Fin 4) :
    (broadcastInDim S4x1 ![0] bcast_S4_S4x1_0 (select
        (cmpi .slt (Host.sort2 S4 0 comparator_i32_i32_d0 (table σ) (iotaInDim S4 32 0)).2 (broadcastInDim S4 ![] bcast_S_S4 (constantI S_ 32 0#32)))
        (addi (Host.sort2 S4 0 comparator_i32_i32_d0 (table σ) (iotaInDim S4 32 0)).2 (broadcastInDim S4 ![] bcast_S_S4 (constantI S_ 32 4#32)))
        (Host.sort2 S4 0 comparator_i32_i32_d0 (table σ) (iotaInDim S4 32 0)).2)) (ix2 z (0 : Fin 1)) = word (σ.symm z) := by
  have key : ∀ v : IVec S4 32, ∀ a : Fin 4, v (Shape.Idx.ofFin z) = word a →
      (broadcastInDim S4x1 ![0] bcast_S4_S4x1_0 (select (cmpi .slt v (broadcastInDim S4 ![] bcast_S_S4 (constantI S_ 32 0#32)))
        (addi v (broadcastInDim S4 ![] bcast_S_S4 (constantI S_ 32 4#32))) v)) (ix2 z (0 : Fin 1)) = word a := fun v a hv => by
    rw [broadcastInDim_apply _ _ _ _ (Shape.Idx.ofFin z) (fun b => by fin_cases b; rfl)]
    show (if IntOp.cmpi .slt (v (Shape.Idx.ofFin z)) 0#32 = 1#1 then _ else v (Shape.Idx.ofFin z)) = _
    rw [hv, if_neg (by clear hv; revert a; decide +kernel)]
  exact key _ _ (argsort_apply σ z)

/-- The gather along axis 0 at `(z, r, k)`: its operand at the plane the column names. -/
theorem gather_apply {α : Type} (x : S4x512x512.Idx → α) (idx : IVec S4x1 32) (z : Fin 4) (r k : Fin 512) (a : Fin 4)
    (ha : idx (ix2 z (0 : Fin 1)) = word a) :
    Host.gather gather_S4x512x512_S4x1_S4x512x512_12_0_n_n_0_1_1512512 x idx (ix3 z r k) = x (ix3 a r k) := by
  unfold Host.gather
  have hs : ∀ c, (gather_S4x512x512_S4x1_S4x512x512_12_0_n_n_0_1_1512512).siIdx (ix3 z r k) c = ix2 z (0 : Fin 1) := fun c => by
    have hc : c = ⟨0, Nat.one_pos⟩ := Fin.ext (Nat.lt_one_iff.mp c.isLt)
    subst hc
    funext b
    match b with
    | ⟨0, _⟩ => rfl
    | ⟨1, _⟩ => rfl
  have h0 : (gather_S4x512x512_S4x1_S4x512x512_12_0_n_n_0_1_1512512).start (ix3 z r k) idx (0 : Fin 3) = a.val := by
    unfold GatherDims.start
    rw [dif_pos (show (0 : Fin 3) ∈ (gather_S4x512x512_S4x1_S4x512x512_12_0_n_n_0_1_1512512).startIndexMap from List.mem_singleton.mpr rfl), hs, ha]
    clear ha hs
    show min (word a).toInt.toNat (4 - 1) = a.val
    revert a; decide +kernel
  refine congrArg x (funext fun b => Fin.ext ?_)
  match b with
  | ⟨0, _⟩ => exact h0
  | ⟨1, _⟩ => exact Nat.zero_add _
  | ⟨2, _⟩ => exact Nat.zero_add _

end Cert.Permute

end
-- ==== Proof.Value.lean ====
/-
The value equation. A block read back by the kernel, at row `r` and column `k`, is the byte of its value there times the
column's scale; the reference's quantised and read-back array at plane `z` is the same number of plane `z`'s values.
-/
module

public import proofs.«01_k».proof.Proof.Contents
public import proofs.«01_k».proof.Proof.Numbers
public import proofs.«01_k».proof.Proof.Sorted
public import Idealize.ShloMosaic.Lib.Pointwise

@[expose] public section

noncomputable section

namespace Cert.Permute

open Idealize.ShloMosaic
open Cert.KernelIdeal.Gen

/-- A column's largest magnitude, at least the least scale's constant. -/
def peak (f : Fin 512 → EReal) : EReal :=
  max (Finset.univ.fold max (Ideal.ofBits .f32 0xFF800000#32) fun r => max (f r) (-(f r))) (Ideal.ofBits .f32 0x0DA24260#32)

/-- It is positive, -/
theorem peak_pos (f : Fin 512 → EReal) : 0 < peak f := lt_max_of_lt_right ofBits_floor_pos
/-- and no value of the column exceeds it in magnitude. -/
theorem le_peak (f : Fin 512 → EReal) (r : Fin 512) : max (f r) (-(f r)) ≤ peak f :=
  le_max_of_le_left ((Finset.le_fold_max _).mpr (Or.inr ⟨r, Finset.mem_univ r, le_rfl⟩))

section Kernel
open Cert.KernelIdeal
variable (x : FVec Ideal S1x512x512 .f32)

/-- The kernel's maximum over the rows of a column is the column's peak. -/
theorem peak_kernel (k : Fin 512) : k0_pay4 (F := Ideal) (k0_pay3 x) (ix1 k) = peak fun r => x (ix3 (0 : Fin 1) r k) := by
  pointwise [k0_pay4, k0_pay3, k0_pay2, peak]
  rfl

/-- The scale sent for a column is its peak over 127. -/
theorem scales_apply (k : Fin 512) : scales (F := Ideal) x (ix2 (0 : Fin 1) k) = Ideal.div (peak fun r => x (ix3 (0 : Fin 1) r k)) (Ideal.ofBits .f32 0x42FE0000#32) := by
  pointwise [scales, k0_pay5]
  rw [peak_kernel]

/-- The byte sent at a row of the first chunk is the value times 127 over its column's peak, rounded and narrowed; -/
theorem bytesA_apply (r : Fin 256) (k : Fin 512) :
    bytesA (F := Ideal) x (ix3 (0 : Fin 1) r k) = byteK (x (ix3 (0 : Fin 1) (⟨r.val, by omega⟩ : Fin 512) k)) (peak fun r => x (ix3 (0 : Fin 1) r k)) := by
  pointwise [bytesA, k0_pay7, k0_pay6, k0_pay2]
  rw [peak_kernel]
  rfl

/-- so in the second chunk, whose rows start at 256. -/
theorem bytesB_apply (r : Fin 256) (k : Fin 512) :
    bytesB (F := Ideal) x (ix3 (0 : Fin 1) r k) = byteK (x (ix3 (0 : Fin 1) (⟨256 + r.val, by omega⟩ : Fin 512) k)) (peak fun r => x (ix3 (0 : Fin 1) r k)) := by
  pointwise [bytesB, k0_pay8, k0_pay6, k0_pay2]
  rw [peak_kernel]
  rfl

/-- The block read back, at a row of the first chunk -/
theorem decodedA_apply (r : Fin 256) (k : Fin 512) :
    k0_pay10 (F := Ideal) (scales x) (bytesA x) (ix3 (0 : Fin 1) r k)
      = (((byteK (x (ix3 (0 : Fin 1) (⟨r.val, by omega⟩ : Fin 512) k)) (peak fun r => x (ix3 (0 : Fin 1) r k))).toInt : ℝ) : EReal)
        * Ideal.div (peak fun r => x (ix3 (0 : Fin 1) r k)) (Ideal.ofBits .f32 0x42FE0000#32) := by
  pointwise [k0_pay10, k0_pay9]
  rw [bytesA_apply, scales_apply]
  rfl
/-- and of the second. -/
theorem decodedB_apply (r : Fin 256) (k : Fin 512) :
    k0_pay1 (F := Ideal) (k0_pay9 (scales x)) (bytesB x) (ix3 (0 : Fin 1) r k)
      = (((byteK (x (ix3 (0 : Fin 1) (⟨256 + r.val, by omega⟩ : Fin 512) k)) (peak fun r => x (ix3 (0 : Fin 1) r k))).toInt : ℝ) : EReal)
        * Ideal.div (peak fun r => x (ix3 (0 : Fin 1) r k)) (Ideal.ofBits .f32 0x42FE0000#32) := by
  pointwise [k0_pay1, k0_pay9]
  rw [bytesB_apply, scales_apply]
  rfl

/-- The block read back, at any row. -/
theorem decoded_apply (r k : Fin 512) :
    decoded (F := Ideal) x (ix3 (0 : Fin 1) r k)
      = (((byteK (x (ix3 (0 : Fin 1) r k)) (peak fun r => x (ix3 (0 : Fin 1) r k))).toInt : ℝ) : EReal)
        * Ideal.div (peak fun r => x (ix3 (0 : Fin 1) r k)) (Ideal.ofBits .f32 0x42FE0000#32) := by
  have hr := r.isLt
  by_cases h : r.val < 256
  · have e : (ix3 (0 : Fin 1) r k : S1x512x512.Idx) = rA.emb (ix3 (0 : Fin 1) (⟨r.val, h⟩ : Fin 256) k : S1x256x512.Idx) := by
      funext a; apply Fin.ext
      match a with
      | ⟨0, _⟩ => rfl
      | ⟨1, _⟩ => show r.val = 0 + 1 * r.val; omega
      | ⟨2, _⟩ => show k.val = 0 + 1 * k.val; omega
    refine (congrArg (decoded (F := Ideal) x) e).trans ((bothFloats_embA _ _ _ _).trans ?_)
    exact decodedA_apply x ⟨r.val, h⟩ k
  · have e : (ix3 (0 : Fin 1) r k : S1x512x512.Idx) = rB.emb (ix3 (0 : Fin 1) (⟨r.val - 256, by omega⟩ : Fin 256) k : S1x256x512.Idx) := by
      funext a; apply Fin.ext
      match a with
      | ⟨0, _⟩ => rfl
      | ⟨1, _⟩ => show r.val = 256 + 1 * (r.val - 256); omega
      | ⟨2, _⟩ => show k.val = 0 + 1 * k.val; omega
    refine (congrArg (decoded (F := Ideal) x) e).trans ((bothFloats_embB _ _ _ _).trans ((decodedB_apply x ⟨r.val - 256, by omega⟩ k).trans ?_))
    have e' : (⟨256 + (r.val - 256), by omega⟩ : Fin 512) = r := Fin.ext (by show 256 + (r.val - 256) = r.val; omega)
    rw [e']

end Kernel

section Reference
open Cert.ReferenceIdeal Cert.ReferenceIdeal.Gen
variable (X : FVec Ideal S4x512x512 .f32)

/-- The reference's columns' maxima, -/
def peaksR : FVec Ideal S4x1x512 .f32 :=
  maximumf (broadcastInDim S4x1x512 ![0, 2] bcast_S4x512_S4x1x512_0_2 (Host.reduce FloatOps.maximumf (Host.absf X) (constant S_ .f32 0xFF800000#32) reducesTo_S4x512x512_S4x512_d1 h_S_)) (broadcastInDim S4x1x512 ![] bcast_S_S4x1x512 (constant S_ .f32 0x0DA24260#32))
/-- its scales, -/
def scalesR : FVec Ideal S4x1x512 .f32 := Host.divf (peaksR X) (broadcastInDim S4x1x512 ![] bcast_S_S4x1x512 (constant S_ .f32 0x42FE0000#32))
/-- and the array quantised and read back. -/
def readR : FVec Ideal S4x512x512 .f32 :=
  mulf (sitofp .f32 (extsi 32 (trunci 8 (fptosi 32 (Host.roundeven (Host.divf X (broadcastInDim S4x512x512 ![0, 1, 2] bcast_S4x1x512_S4x512x512_0_1_2 (scalesR X))))) natLt_8_32) natLt_8_32)) (broadcastInDim S4x512x512 ![0, 1, 2] bcast_S4x1x512_S4x512x512_0_1_2 (scalesR X))

/-- The reference's maximum over the rows of a plane's column is that column's peak. -/
theorem peak_reference (z : Fin 4) (k : Fin 512) : peaksR X (ix3 z (0 : Fin 1) k) = peak fun r => X (ix3 z r k) := by
  pointwise [peaksR, peak]
  rfl

/-- The reference's plane, read back: the value over the scale, rounded and narrowed, times the scale. -/
theorem readR_apply (z : Fin 4) (r k : Fin 512) :
    readR X (ix3 z r k) = ((((((wordR (X (ix3 z r k)) (peak fun r => X (ix3 z r k))).setWidth 8).signExtend 32).toInt : ℝ)) : EReal)
      * Ideal.div (peak fun r => X (ix3 z r k)) (Ideal.ofBits .f32 0x42FE0000#32) := by
  pointwise [readR, scalesR]
  rw [peak_reference]
  rfl

end Reference

/-- Where a block is plane `z` of the whole array, the block read back by the kernel is plane `z` of the reference's. -/
theorem decoded_eq_readR (x : FVec Ideal Cert.KernelIdeal.S1x512x512 .f32) (X : FVec Ideal Cert.ReferenceIdeal.S4x512x512 .f32) (z : Fin 4)
    (hx : ∀ r k : Fin 512, x (ix3 (0 : Fin 1) r k) = X (ix3 z r k)) (r k : Fin 512) :
    decoded (F := Ideal) x (ix3 (0 : Fin 1) r k) = readR X (ix3 z r k) := by
  rw [decoded_apply, readR_apply, narrowed_eq _ _ (peak_pos _) (le_peak (fun r => X (ix3 z r k)) r)]
  simp only [hx]

end Cert.Permute

end
-- ==== Proof.Algebraic.lean ====
/-
The value claim, for any one permutation `σ`: device `c`'s result is plane `σ⁻¹ z` of the whole array, quantised and read
back, `z` the device's position along mesh axis `z`; and that is the reference's plane `z`.
-/
module

public import proofs.«01_k».proof.Proof.Frames
public import proofs.«01_k».proof.Proof.Value

@[expose] public section

noncomputable section

namespace Cert.Permute

open Idealize.ShloMosaic
open Idealize.ShloMosaic.TcCoe
open Idealize.SL.Sem

/-- Device `c`'s block of a whole array, as a claim names it, at `(0, r, k)`: the array at plane `zOf c`. -/
theorem blockN_plane (X : Cert.ReferenceIdeal.S4x512x512.Idx → EReal) (c : Dev Cert.KernelIdeal.nD) (r k : Fin 512) :
    (Layout.blockN ⟨3, ![1, 512, 512]⟩ ⟨3, ![4, 512, 512]⟩ (Layout.meshBlock [2, 4, 4] ![[2], [], []] c) X) (ix3 (0 : Fin 1) r k)
      = X (ix3 (zOf c) r k) := by
  rw [Layout.blockN_apply]
  refine congrArg X (funext fun a => Fin.ext ?_)
  match a with
  | ⟨0, _⟩ =>
    show (c.val / 1 % 4 * 1 + 0) * 1 + 0 = c.val % 4
    omega
  | ⟨1, _⟩ =>
    show 0 * 512 + r.val = r.val
    omega
  | ⟨2, _⟩ =>
    show 0 * 512 + k.val = k.val
    omega

section Reference
open Cert.ReferenceIdeal Cert.ReferenceIdeal.Gen

/-- What the reference ends with: the array quantised and read back, its planes gathered by the argsort of the table. -/
def resultR (X : FVec Ideal S4x512x512 .f32) (t : IVec S4 32) : FVec Ideal S4x512x512 .f32 :=
  Host.gather gather_S4x512x512_S4x1_S4x512x512_12_0_n_n_0_1_1512512 (readR X)
    (broadcastInDim S4x1 ![0] bcast_S4_S4x1_0 (select
        (cmpi .slt (Host.sort2 S4 0 comparator_i32_i32_d0 t (iotaInDim S4 32 0)).2 (broadcastInDim S4 ![] bcast_S_S4 (constantI S_ 32 0#32)))
        (addi (Host.sort2 S4 0 comparator_i32_i32_d0 t (iotaInDim S4 32 0)).2 (broadcastInDim S4 ![] bcast_S_S4 (constantI S_ 32 4#32)))
        (Host.sort2 S4 0 comparator_i32_i32_d0 t (iotaInDim S4 32 0)).2))

/-- With a permutation's table, plane `z` of it is plane `σ⁻¹ z` of the array quantised and read back. -/
theorem resultR_apply (X : FVec Ideal S4x512x512 .f32) (σ : Route) (z : Fin 4) (r k : Fin 512) :
    resultR X (table σ) (ix3 z r k) = readR X (ix3 (σ.symm z) r k) := by
  unfold resultR
  exact gather_apply _ _ z r k (σ.symm z) (column_apply σ z)

end Reference

/-- Device `c`'s result is its block of the reference's. -/
theorem result_eq (X : FVec Ideal Cert.ReferenceIdeal.S4x512x512 .f32) (σ : Route) (c : Dev Cert.KernelIdeal.nD)
    (x : FVec Ideal Cert.KernelIdeal.S1x512x512 .f32)
    (hx : x = Layout.blockN ⟨3, ![1, 512, 512]⟩ ⟨3, ![4, 512, 512]⟩ (Layout.meshBlock [2, 4, 4] ![[2], [], []] (src σ c)) X) :
    decoded (F := Ideal) x
      = Layout.blockN ⟨3, ![1, 512, 512]⟩ ⟨3, ![4, 512, 512]⟩ (Layout.meshBlock [2, 4, 4] ![[2], [], []] c) (resultR X (table σ)) := by
  have plane : ∀ r k : Fin 512, decoded (F := Ideal) x (ix3 (0 : Fin 1) r k)
      = (Layout.blockN ⟨3, ![1, 512, 512]⟩ ⟨3, ![4, 512, 512]⟩ (Layout.meshBlock [2, 4, 4] ![[2], [], []] c) (resultR X (table σ))) (ix3 (0 : Fin 1) r k) := fun r k => by
    refine Eq.trans ?_ ((blockN_plane (resultR X (table σ)) c r k).trans (resultR_apply X σ (zOf c) r k)).symm
    refine decoded_eq_readR x X (σ.symm (zOf c)) (fun r k => ?_) r k
    rw [hx]
    exact (blockN_plane X (src σ c) r k).trans (by unfold src; rw [zOf_onLine])
  funext i
  obtain ⟨r, k, rfl⟩ : ∃ r k : Fin 512, i = ix3 (0 : Fin 1) r k := ⟨i 1, i 2, by
    funext a; apply Fin.ext
    match a with
    | ⟨0, _⟩ => exact Nat.lt_one_iff.mp (i 0).isLt
    | ⟨1, _⟩ => rfl
    | ⟨2, _⟩ => rfl⟩
  exact plane r k

/-- The value claim where every device's table spells a permutation. -/
theorem algebraic (w : Fin 4 → BitVec 32) (h : Spells w)
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (ht : ∀ c : Dev Cert.KernelIdeal.nD, cmpi .eq (m ((c.tc : Thread Cert.KernelIdeal.nD Cert.KernelIdeal.τ).loc Cert.KernelIdeal.main_arg1)) (fun i => w (Cert.KernelIdeal.S4.rowMajor i)) = fun _ => 1#1)
    (hm : ∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have hT : ∀ c : Dev Cert.KernelIdeal.nD, m ((c.tc : Thread Cert.KernelIdeal.nD Cert.KernelIdeal.τ).loc Cert.KernelIdeal.main_arg1) = table (routeOf w h) :=
    fun c => eq_table w h _ (ht c)
  have hT' : m' (((0 : Dev Cert.ReferenceIdeal.nD).tc : Thread Cert.ReferenceIdeal.nD Cert.ReferenceIdeal.τ).loc Cert.ReferenceIdeal.main_arg1) = table (routeOf w h) :=
    (hm 0).2.symm.trans (hT 0)
  refine ⟨resultR (m' (((0 : Dev Cert.ReferenceIdeal.nD).tc : Thread Cert.ReferenceIdeal.nD Cert.ReferenceIdeal.τ).loc Cert.ReferenceIdeal.main_arg0)) (table (routeOf w h)), ?_, ?_⟩
  · exact (θ_run Cert.KernelIdeal.defs _ _).mono
      (fun r hr c => ⟨(hr.1 c).1.trans (result_eq _ (routeOf w h) c _ (hm (src (routeOf w h) c)).1), (hr.1 c).2⟩) (run_arrays m g (routeOf w h) hT)
  · refine (θ_run Cert.ReferenceIdeal.defs _ _).mono (fun r hr => ⟨?_, (hr 0).2⟩) (Cert.ReferenceIdeal.Value.run (F := Ideal) m' g')
    rw [← hT']
    exact (hr 0).1

end Cert.Permute

end
-- ==== Proof.lean ====
module

public import proofs.«01_k».proof.Defs
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem Cert.Permute

/-- The claims. Each precondition names four words; each claim with a precondition is the general theorem at those words. -/
theorem claim : Cert.Claim := by
  refine ⟨Cert.Kernel.Gen.facts, Cert.KernelIdeal.Gen.facts, Cert.ReferenceIdeal.Gen.facts, ?_⟩
  iterate 48 refine ⟨⟨⟩, ?_⟩
  and_intros
  -- the kernel's frame
  iterate 24 exact fun m g h => frame_kernel _ (by decide) m g h
  -- the idealized kernel's
  iterate 24 exact fun m g h => frame_kernelIdeal _ (by decide) m g h
  -- the reference's
  · exact frame_reference
  iterate 24 exact fun m g _ => frame_reference m g trivial
  -- the idealization rewrites nothing
  · trivial
  -- the values
  iterate 24 exact fun m g m' g' h hm => algebraic _ (by decide) m g m' g' h hm

end Cert.Proof

end
